-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1x1024x32x128 : Shape := ⟨4, ![1, 1024, 32, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1024x1024 .bf16) (main_arg1 : FVec F S1024x1024 .bf16) (main_arg2 : FVec F S1x1024x32x128 .f32) (main_arg3 : FVec F S1x1024x32x128 .f32) (main_arg4 : FVec F S1024x1024 .bf16) : IVec S_ 1 :=
  let main_v0 : FVec F S1024x1024 .bf16 := Host.absf main_arg0
  let main_cst : FVec F S_ .bf16 := constant S_ .bf16 0x7F80#16
  let main_v1 : FVec F S1024x1024 .bf16 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_finite_ReferenceIdeal.lean ====
abbrev S4096x1024 : Shape := ⟨2, ![4096, 1024]⟩
abbrev S1024x4096 : Shape := ⟨2, ![1024, 4096]⟩
abbrev S1x1024x32x128 : Shape := ⟨4, ![1, 1024, 32, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S4096x1024 .bf16) (main_arg1 : FVec F S1024x4096 .bf16) (main_arg2 : FVec F S1x1024x32x128 .f32) (main_arg3 : FVec F S1x1024x32x128 .f32) (main_arg4 : FVec F S4096x1024 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1024x1024 : Shape := ⟨2, ![1024, 1024]⟩
abbrev S1x1024x32x128 : Shape := ⟨4, ![1, 1024, 32, 128]⟩
abbrev S4x1024x1024 : Shape := ⟨3, ![4, 1024, 1024]⟩
abbrev S2x1024x8x128 : Shape := ⟨4, ![2, 1024, 8, 128]⟩
abbrev S4 : Shape := ⟨1, ![4]⟩
abbrev S2 : Shape := ⟨1, ![2]⟩
abbrev S_ : Shape := ⟨0, ![]⟩
abbrev S1x1024x1024 : Shape := ⟨3, ![1, 1024, 1024]⟩
abbrev S1024x1 : Shape := ⟨2, ![1024, 1]⟩
abbrev S1x1024 : Shape := ⟨2, ![1, 1024]⟩
abbrev S1 : Shape := ⟨1, ![1]⟩
abbrev S1x1024x8x128 : Shape := ⟨4, ![1, 1024, 8, 128]⟩
abbrev S1024x8x128 : Shape := ⟨3, ![1024, 8, 128]⟩
abbrev S1024x128 : Shape := ⟨2, ![1024, 128]⟩
abbrev S1024x1x128 : Shape := ⟨3, ![1024, 1, 128]⟩
abbrev S1024 : Shape := ⟨1, ![1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1x1024x32x128, .f32⟩
  | .hbm, ⟨3, _⟩ => ⟨S1x1024x32x128, .f32⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S2x1024x8x128, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_40 : BitVec 32 := 1#32
  let v95 : BitVec 32 := Scalar.muli v7 c1_i32_40
  let v96 : BitVec 32 := Scalar.addi c0_i32_41 v95
  v96.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_50 : BitVec 32 := 1#32
  let v105 : BitVec 32 := Scalar.muli v5 c1_i32_50
  let v106 : BitVec 32 := Scalar.addi c0_i32_51 v105
  v106.toNat
def k0_off1 (d0 : Dev nD) : Fin 4 → Nat :=
  let c0_i32_57 : BitVec 32 := 0#32
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v115 : BitVec 32 := Scalar.muli v2 c8_i32
  let c0_i32_64 : BitVec 32 := 0#32
  ![0, 0, v115.toNat, 0]
def k0_dev5 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_162 : BitVec 32 := 1#32
  let v308 : BitVec 32 := Scalar.muli v7 c1_i32_162
  let v309 : BitVec 32 := Scalar.addi c0_i32_163 v308
  v309.toNat
def k0_dev6 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_172 : BitVec 32 := 1#32
  let v318 : BitVec 32 := Scalar.muli v5 c1_i32_172
  let v319 : BitVec 32 := Scalar.addi c0_i32_173 v318
  v319.toNat
def k0_off2 (d0 : Dev nD) (c3_i32_178 : BitVec 32) : Fin 4 → Nat :=
  let c0_i32_182 : BitVec 32 := 0#32
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v328 : BitVec 32 := Scalar.addi v2 c3_i32_178
  let c4_i32_179 : BitVec 32 := 4#32
  let v329 : BitVec 32 := Scalar.remsi v328 c4_i32_179
  let c8_i32_180 : BitVec 32 := 8#32
  let v330 : BitVec 32 := Scalar.muli v329 c8_i32_180
  let c0_i32_189 : BitVec 32 := 0#32
  ![0, 0, v330.toNat, 0]
def k0_dev7 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_282 : BitVec 32 := 1#32
  let v519 : BitVec 32 := Scalar.muli v7 c1_i32_282
  let v520 : BitVec 32 := Scalar.addi c0_i32_283 v519
  v520.toNat
def k0_dev8 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_292 : BitVec 32 := 1#32
  let v529 : BitVec 32 := Scalar.muli v7 c1_i32_292
  let v530 : BitVec 32 := Scalar.addi c0_i32_293 v529
  v530.toNat
def k0_dev9 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_301 : BitVec 32 := 1#32
  let v539 : BitVec 32 := Scalar.muli v5 c1_i32_301
  let v540 : BitVec 32 := Scalar.addi c0_i32_302 v539
  v540.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S4096x1024 : Shape := ⟨2, ![4096, 1024]⟩
abbrev S1024x4096 : Shape := ⟨2, ![1024, 4096]⟩
abbrev S1x1024x32x128 : Shape := ⟨4, ![1, 1024, 32, 128]⟩
abbrev S1x4096x1024 : Shape := ⟨3, ![1, 4096, 1024]⟩
abbrev S1x4096x4096 : Shape := ⟨3, ![1, 4096, 4096]⟩
abbrev S1x4096x32x128 : Shape := ⟨4, ![1, 4096, 32, 128]⟩
abbrev S4096 : Shape := ⟨1, ![4096]⟩
abbrev S_ : Shape := ⟨0, ![]⟩
abbrev S4096x1 : Shape := ⟨2, ![4096, 1]⟩
abbrev S1024 : Shape := ⟨1, ![1024]⟩
abbrev S1x1024 : Shape := ⟨2, ![1, 1024]⟩
abbrev S1x32x4096x1024 : Shape := ⟨4, ![1, 32, 4096, 1024]⟩
abbrev S1x1x4096x1024 : Shape := ⟨4, ![1, 1, 4096, 1024]⟩
abbrev S1x32x4096 : Shape := ⟨3, ![1, 32, 4096]⟩
abbrev S1x32x4096x1 : Shape := ⟨4, ![1, 32, 4096, 1]⟩
abbrev S1x1x4096x1 : Shape := ⟨4, ![1, 1, 4096, 1]⟩
abbrev S1x32x128x4096 : Shape := ⟨4, ![1, 32, 128, 4096]⟩

abbrev nBuf : Space → Nat
  | .hbm => 129
  | .vmem => 0
  | .smem => 0
  | _ => 0

abbrev hbmTy0_0 (i : Nat) : BufTy := match i % 128 with
  | 0 => ⟨S4096x1024, .bf16⟩
  | 1 => ⟨S1024x4096, .bf16⟩
  | 2 => ⟨S1x1024x32x128, .f32⟩
  | 3 => ⟨S1x1024x32x128, .f32⟩
  | 4 => ⟨S4096x1024, .bf16⟩
  | 5 => ⟨S4096x1024, .f32⟩
  | 6 => ⟨S1x4096x1024, .f32⟩
  | 7 => ⟨S1024x4096, .f32⟩
  | 8 => ⟨S4096x1024, .f32⟩
  | 9 => ⟨S1x4096x4096, .f32⟩
  | 10 => ⟨S1x4096x32x128, .f32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S1024, .i32⟩
  | 32 => ⟨S_, .i32⟩
  | 33 => ⟨S_, .i32⟩
  | 34 => ⟨S1024, .i32⟩
  | 35 => ⟨S1024, .i32⟩
  | 36 => ⟨S1024, .i32⟩
  | 37 => ⟨S_, .i32⟩
  | 38 => ⟨S1024, .i32⟩
  | 39 => ⟨S1024, .i1⟩
  | 40 => ⟨S1024, .i32⟩
  | 41 => ⟨S1024, .i32⟩
  | 42 => ⟨S_, .i32⟩
  | 43 => ⟨S1024, .i32⟩
  | 44 => ⟨S1024, .i1⟩
  | 45 => ⟨S1024, .i1⟩
  | 46 => ⟨S_, .i32⟩
  | 47 => ⟨S1024, .i32⟩
  | 48 => ⟨S1024, .i32⟩
  | 49 => ⟨S1024, .i32⟩
  | 50 => ⟨S1x1024, .i32⟩
  | 51 => ⟨S4096x1024, .i32⟩
  | 52 => ⟨S4096x1024, .i32⟩
  | 53 => ⟨S4096x1024, .i1⟩
  | 54 => ⟨S_, .i32⟩
  | 55 => ⟨S1x1024, .i32⟩
  | 56 => ⟨S1x1024, .i1⟩
  | 57 => ⟨S4096x1024, .i1⟩
  | 58 => ⟨S4096x1024, .i1⟩
  | 59 => ⟨S4096x1024, .i32⟩
  | 60 => ⟨S4096x1024, .i32⟩
  | 61 => ⟨S4096x1024, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S4096x1024, .i32⟩
  | 69 => ⟨S4096x1024, .i32⟩
  | 70 => ⟨S_, .i32⟩
  | 71 => ⟨S4096x1024, .i32⟩
  | 72 => ⟨S4096x1024, .i1⟩
  | 73 => ⟨S_, .i32⟩
  | 74 => ⟨S4096x1024, .i32⟩
  | 75 => ⟨S4096x1024, .i1⟩
  | 76 => ⟨S_, .i32⟩
  | 77 => ⟨S_, .i1⟩
  | 78 => ⟨S4096x1024, .i1⟩
  | 79 => ⟨S4096x1024, .i1⟩
  | 80 => ⟨S4096x1024, .i1⟩
  | 81 => ⟨S4096x1024, .i32⟩
  | 82 => ⟨S4096x1024, .i32⟩
  | 83 => ⟨S4096x1024, .i32⟩
  | 84 => ⟨S_, .i32⟩
  | 85 => ⟨S4096x1024, .i32⟩
  | 86 => ⟨S4096x1024, .i1⟩
  | 87 => ⟨S4096x1024, .i1⟩
  | 88 => ⟨S1x32x4096x1024, .f32⟩
  | 89 => ⟨S_, .f32⟩
  | 90 => ⟨S_, .f32⟩
  | 91 => ⟨S1x32x4096x1024, .f32⟩
  | 92 => ⟨S1x32x4096x1024, .f32⟩
  | 93 => ⟨S1x1x4096x1024, .i1⟩
  | 94 => ⟨S_, .f32⟩
  | 95 => ⟨S_, .f32⟩
  | 96 => ⟨S1x32x4096x1024, .i1⟩
  | 97 => ⟨S1x32x4096x1024, .f32⟩
  | 98 => ⟨S1x32x4096x1024, .f32⟩
  | 99 => ⟨S_, .f32⟩
  | 100 => ⟨S1x32x4096, .f32⟩
  | 101 => ⟨S1x32x4096x1, .f32⟩
  | 102 => ⟨S1x32x4096x1024, .f32⟩
  | 103 => ⟨S1x32x4096x1024, .f32⟩
  | 104 => ⟨S1x32x4096x1024, .f32⟩
  | 105 => ⟨S_, .i1⟩
  | 106 => ⟨S4096, .i1⟩
  | 107 => ⟨S1x1x4096x1, .i1⟩
  | 108 => ⟨S_, .f32⟩
  | 109 => ⟨S1x32x4096, .f32⟩
  | 110 => ⟨S1x32x4096x1, .f32⟩
  | 111 => ⟨S_, .f32⟩
  | 112 => ⟨S_, .f32⟩
  | 113 => ⟨S1x32x4096x1, .i1⟩
  | 114 => ⟨S1x32x4096x1, .f32⟩
  | 115 => ⟨S1x32x4096x1, .f32⟩
  | 116 => ⟨S1x32x4096x1024, .f32⟩
  | 117 => ⟨S1x32x4096x1024, .f32⟩
  | 118 => ⟨S1x1x4096x1, .i1⟩
  | 119 => ⟨S_, .f32⟩
  | 120 => ⟨S_, .f32⟩
  | 121 => ⟨S1x32x4096x1024, .i1⟩
  | 122 => ⟨S1x32x4096x1024, .f32⟩
  | 123 => ⟨S1x32x4096x1024, .f32⟩
  | 124 => ⟨S1x32x128x4096, .f32⟩
  | 125 => ⟨S1x4096x32x128, .f32⟩
  | 126 => ⟨S1x4096x4096, .f32⟩
  | 127 => ⟨S1x4096x1024, .f32⟩
  | _ => ⟨S4096x1024, .bf16⟩

abbrev hbmTy0_1 (i : Nat) : BufTy := match i % 128 with
  | 0 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_2 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v22 : Ref sig .tc := ⟨.hbm, 83, rfl⟩
abbrev main_c_3 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.Protocol.lean ====
/-
The protocol of the kernel: the ring of four devices, what each device's two weight buffers hold slot by slot, the
cells (the barrier, seven transfers' send and receive semaphores), the schedule of one round over them, what each
device owes at launch, and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The user algebra: the staging cells' rounds, the ring's rounds (duties named by a Boolean), the local copies' counters -/

abbrev UB : Type := URounds (GSem nD τ sig) Bool
abbrev UV : Type := UB × Counters
abbrev UU : Type := UR sig nD τ × UV

local notation "𝕄" => MT nD τ sig Unit (Elt F) ℕ UU ℕ

abbrev EP : Emb (UR sig nD τ) (MT nD τ sig Unit (Elt F) ℕ UU ℕ) := embL
abbrev EV : Emb UV (MT nD τ sig Unit (Elt F) ℕ UU ℕ) := embR
/-- The ring's rounds: the left of the right component. -/
def ER : Emb UB (MT nD τ sig Unit (Elt F) ℕ UU ℕ) := (Emb.inl : Emb UB UV).trans EV
instance ER_landsIn : (ER : Emb UB 𝕄).LandsIn (upEmb : UEmb _ 𝕄) := by unfold ER EV; infer_instance
/-- The local copies' counters. -/
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The ring -/

/-- The device `h` places after `c`. -/
def fwd (c : Dev nD) (h : Fin 4) : Dev nD := ⟨(c.val + h.val) % 4, Nat.mod_lt _ (by decide)⟩
/-- The device `h` places before `c`. -/
def bwd (c : Dev nD) (h : Fin 4) : Dev nD := ⟨(c.val + 4 - h.val) % 4, Nat.mod_lt _ (by decide)⟩
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem bwd_zero (c : Dev nD) : bwd c 0 = c := by revert c; decide
theorem fwd_zero (c : Dev nD) : fwd c 0 = c := by revert c; decide
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)

/-! ## The buffers and their slots -/

abbrev xM : Memref sig .tc .vmem S1024x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev outM : Memref sig .tc .vmem S1024x1024 .f32 := Memref.whole cc0_stg3_0
abbrev qM : Memref sig .tc .vmem S4x1024x1024 .bf16 := Memref.whole cc0_scratch0
abbrev oM : Memref sig .tc .vmem S4x1024x1024 .bf16 := Memref.whole cc0_scratch1
abbrev kvM : Memref sig .tc .vmem S2x1024x8x128 .f32 := Memref.whole cc0_scratch2
abbrev kM : Memref sig .tc .hbm S1x1024x32x128 .f32 := Memref.whole main_arg2
abbrev vM : Memref sig .tc .hbm S1x1024x32x128 .f32 := Memref.whole main_arg3

/-- The rectangles of the slots of a weight buffer: a whole slot, and the left and right halves of its columns. -/
abbrev R0 : Rect S4x1024x1024 := Rect.unit (s := S4x1024x1024) ![0, 0, 0] S1x1024x1024.size inb_S4x1024x1024_S1x1024x1024_0_0_0
abbrev R1 : Rect S4x1024x1024 := Rect.unit (s := S4x1024x1024) ![1, 0, 0] S1x1024x1024.size inb_S4x1024x1024_S1x1024x1024_1_0_0
abbrev R2 : Rect S4x1024x1024 := Rect.unit (s := S4x1024x1024) ![2, 0, 0] S1x1024x1024.size inb_S4x1024x1024_S1x1024x1024_2_0_0
abbrev R3 : Rect S4x1024x1024 := Rect.unit (s := S4x1024x1024) ![3, 0, 0] S1x1024x1024.size inb_S4x1024x1024_S1x1024x1024_3_0_0
abbrev R2l : Rect S4x1024x1024 := Rect.unit (s := S4x1024x1024) ![2, 0, 0] S1x1024x512.size inb_S4x1024x1024_S1x1024x512_2_0_0
abbrev R2r : Rect S4x1024x1024 := Rect.unit (s := S4x1024x1024) ![2, 0, 512] S1x1024x512.size inb_S4x1024x1024_S1x1024x512_2_0_512
abbrev R3l : Rect S4x1024x1024 := Rect.unit (s := S4x1024x1024) ![3, 0, 0] S1x1024x512.size inb_S4x1024x1024_S1x1024x512_3_0_0
abbrev R3r : Rect S4x1024x1024 := Rect.unit (s := S4x1024x1024) ![3, 0, 512] S1x1024x512.size inb_S4x1024x1024_S1x1024x512_3_0_512

/-- The slots as the transfers name them. -/
abbrev sq (b : Memref sig .tc .vmem S4x1024x1024 .bf16) (r : Fin 4) : Memref sig .tc .vmem S1024x1024 .bf16 := match r with
  | 0 => (b.slice R0 (fun _ => rfl)).squeeze S1024x1024 squeezes_S1x1024x1024_S1024x1024
  | 1 => (b.slice R1 (fun _ => rfl)).squeeze S1024x1024 squeezes_S1x1024x1024_S1024x1024
  | 2 => (b.slice R2 (fun _ => rfl)).squeeze S1024x1024 squeezes_S1x1024x1024_S1024x1024
  | 3 => (b.slice R3 (fun _ => rfl)).squeeze S1024x1024 squeezes_S1x1024x1024_S1024x1024
abbrev q2l : Memref sig .tc .vmem S1024x512 .bf16 := (qM.slice R2l (fun _ => rfl)).squeeze S1024x512 squeezes_S1x1024x512_S1024x512
abbrev q2r : Memref sig .tc .vmem S1024x512 .bf16 := (qM.slice R2r (fun _ => rfl)).squeeze S1024x512 squeezes_S1x1024x512_S1024x512
abbrev q3l : Memref sig .tc .vmem S1024x512 .bf16 := (qM.slice R3l (fun _ => rfl)).squeeze S1024x512 squeezes_S1x1024x512_S1024x512
abbrev q3r : Memref sig .tc .vmem S1024x512 .bf16 := (qM.slice R3r (fun _ => rfl)).squeeze S1024x512 squeezes_S1x1024x512_S1024x512

/-! ## Contents -/

/-- A pair of coordinates as an index of a 1024 × 1024 array. -/
def ix2 (a b : Fin 1024) : S1024x1024.Idx := fun k => match k with | 0 => a | 1 => b

/-- What the staged inputs hold on device `c`. -/
def xB (c : Dev nD) : (cc0_stg0_0 : Ref sig .tc).ty.Contents (Elt F) :=
  (win0_0.blk (0 : Fin 1)).view.read (Elt F) ((s₀ m ρ).mem ((c : Thread nD τ).loc main_arg0))
def wqB (c : Dev nD) : (cc0_stg1_0 : Ref sig .tc).ty.Contents (Elt F) :=
  (win0_1.blk (0 : Fin 1)).view.read (Elt F) ((s₀ m ρ).mem ((c : Thread nD τ).loc main_arg1))
def woB (c : Dev nD) : (cc0_stg2_0 : Ref sig .tc).ty.Contents (Elt F) :=
  (win0_2.blk (0 : Fin 1)).view.read (Elt F) ((s₀ m ρ).mem ((c : Thread nD τ).loc main_arg4))

/-- What the query-weight buffer of `c` holds once its slots are filled: slot `h` the block of the device `h` before. -/
def WQ (c : Dev nD) : (cc0_scratch0 : Ref sig .tc).ty.Contents (Elt F) := fun i : S4x1024x1024.Idx =>
  wqB m ρ (bwd c (i 0)) (ix2 (i 1) (i 2))
/-- What the output-weight buffer of `c` holds once its slots are filled: slot `h` the block of the device `h` after. -/
def WO (c : Dev nD) : (cc0_scratch1 : Ref sig .tc).ty.Contents (Elt F) := fun i : S4x1024x1024.Idx =>
  woB m ρ (fwd c (i 0)) (ix2 (i 1) (i 2))

/-- Elements `S` of the query-weight buffer of `c`, filled. -/
def qP (c : Dev nD) (S : Finset S4x1024x1024.Idx) (q : PosShare TreeShare) : sProp 𝕄 :=
  (((c : Thread nD τ).loc cc0_scratch0) ↦[S]{q} WQ m ρ c)
def oP (c : Dev nD) (S : Finset S4x1024x1024.Idx) (q : PosShare TreeShare) : sProp 𝕄 :=
  (((c : Thread nD τ).loc cc0_scratch1) ↦[S]{q} WO m ρ c)
/-- Elements `S` of the query-weight buffer of `c`, at any contents. -/
def qE (c : Dev nD) (S : Finset S4x1024x1024.Idx) : sProp 𝕄 :=
  iprop(∃ f : Buf (Elt F) ((c : Thread nD τ).loc cc0_scratch0), ((c : Thread nD τ).loc cc0_scratch0) ↦[S]{fullShare} f)
def oE (c : Dev nD) (S : Finset S4x1024x1024.Idx) : sProp 𝕄 :=
  iprop(∃ f : Buf (Elt F) ((c : Thread nD τ).loc cc0_scratch1), ((c : Thread nD τ).loc cc0_scratch1) ↦[S]{fullShare} f)

omit [FloatOps F] [Named F] in
instance qP_storable (c : Dev nD) (S q) : BI.Storable (upEmb : UEmb _ 𝕄) (qP (F := F) m ρ c S q) := by unfold qP; infer_instance
omit [FloatOps F] [Named F] in
instance oP_storable (c : Dev nD) (S q) : BI.Storable (upEmb : UEmb _ 𝕄) (oP (F := F) m ρ c S q) := by unfold oP; infer_instance
omit [FloatOps F] [Named F] in
instance qE_storable (c : Dev nD) (S) : BI.Storable (upEmb : UEmb _ 𝕄) (qE (F := F) c S) := by unfold qE; infer_instance
omit [FloatOps F] [Named F] in
instance oE_storable (c : Dev nD) (S) : BI.Storable (upEmb : UEmb _ 𝕄) (oE (F := F) c S) := by unfold oE; infer_instance

/-! ## The cells -/

/-- The runtime's barrier semaphore of collective id 0. -/
abbrev barS : Sem sig := (SemArray.scalar (sig.barrier 0 rfl) : Sems sig S_).sem

abbrev ds (n : ℕ) (h : n < 26 := by decide) : DmaSem sig := ⟨n, h⟩

/-- The ring's semaphores: the barrier; the send semaphores of the seven transfers; their receive semaphores. The
    transfers: the query weights' first and second hop and the two halves of their third, then the output weights' three. -/
abbrev csem : Fin 15 → SemLoc sig := ![.reg barS,
  .dma (ds 4), .dma (ds 5), .dma (ds 20), .dma (ds 21), .dma (ds 12), .dma (ds 13), .dma (ds 14),
  .dma (ds 9), .dma (ds 10), .dma (ds 22), .dma (ds 23), .dma (ds 17), .dma (ds 18), .dma (ds 19)]

abbrev kcell (ck : Dev nD × Fin 15) : GSem nD τ sig := ((ck.1 : Thread nD τ), csem ck.2)

/-- The place of a semaphore among the ring's. -/
def kOf (sm : SemLoc sig) : Option (Fin 15) := (List.finRange 15).find? fun k => decide (csem k = sm)
theorem kOf_csem : ∀ k, kOf (csem k) = some k := by decide

/-- What one duty of the cell pays: a unit at the barrier, the credit of a slot or of half a slot elsewhere. -/
abbrev qN : ℕ := (sq qM 1).view.dmaCredit
abbrev hN : ℕ := q3l.view.dmaCredit
abbrev oN : ℕ := (sq oM 1).view.dmaCredit
def amt : Fin 15 → ℕ := ![1, qN, qN, hN, hN, oN, oN, oN, qN, qN, hN, hN, oN, oN, oN]
theorem qN_pos : 0 < qN := View.dmaCredit_pos _ (by decide)
theorem hN_pos : 0 < hN := View.dmaCredit_pos _ (by decide)
theorem oN_pos : 0 < oN := View.dmaCredit_pos _ (by decide)
theorem amt_pos (k : Fin 15) : 0 < amt k := by
  unfold amt
  fin_cases k <;> first | exact qN_pos | exact hN_pos | exact oN_pos | exact Nat.one_pos

/-- What the duty of cell `k` of device `c` hands over. At the barrier: the neighbours' empty slots. -/
def pay (c : Dev nD) (k : Fin 15) (d : Bool) : sProp 𝕄 := match k with
  | ⟨0, _⟩ => if d then iprop(qE (nxt c) R1.set ∗ qE (nxt c) R2.set ∗ qE (nxt c) R3l.set ∗ qE (nxt c) R3r.set)
      else iprop(oE (prv c) R1.set ∗ oE (prv c) R2.set ∗ oE (prv c) R3.set)
  | ⟨1, _⟩ => qP m ρ c R0.set fullShare.right
  | ⟨2, _⟩ => qP m ρ c R1.set fullShare.right
  | ⟨3, _⟩ => qP m ρ c R2l.set fullShare.right
  | ⟨4, _⟩ => qP m ρ c R2r.set fullShare.right
  | ⟨5, _⟩ => oP m ρ c R0.set fullShare.right
  | ⟨6, _⟩ => oP m ρ c R1.set fullShare.right
  | ⟨7, _⟩ => oP m ρ c R2.set fullShare.right
  | ⟨8, _⟩ => qP m ρ c R1.set fullShare
  | ⟨9, _⟩ => qP m ρ c R2.set fullShare
  | ⟨10, _⟩ => qP m ρ c R3l.set fullShare
  | ⟨11, _⟩ => qP m ρ c R3r.set fullShare
  | ⟨12, _⟩ => oP m ρ c R1.set fullShare
  | ⟨13, _⟩ => oP m ρ c R2.set fullShare
  | ⟨14, _⟩ => oP m ρ c R3.set fullShare
  | ⟨_ + 15, h⟩ => absurd h (Nat.not_lt.2 (Nat.le_add_left _ _))

omit [FloatOps F] [Named F] in
instance pay_storable (c : Dev nD) (k : Fin 15) (d : Bool) : BI.Storable (upEmb : UEmb _ 𝕄) (pay (F := F) m ρ c k d) := by
  fin_cases k <;> (unfold pay; dsimp only; try split) <;> infer_instance

/-- One round: the barrier has two duties, every other cell one. -/
def dut (k : Fin 15) : Finset Bool := if k = 0 then Finset.univ else {false}

def sched : Rounds.Schedule (GSem nD τ sig) Bool 𝕄 where
  duties g r := if r = 0 ∧ g.1.2 = .tc then (kOf g.2).elim ∅ dut else ∅
  unitless _ := False
  amount g _ _ := (kOf g.2).elim 1 amt
  payload g _ d := (kOf g.2).elim iprop(emp) fun k => pay m ρ g.1.1 k d
  amount_pos g _ _ _ := by
    cases kOf g.2 with
    | none => exact Nat.one_pos
    | some k => exact amt_pos k

instance sched_payload_storable (g : GSem nD τ sig) (r : ℕ) (d : Bool) :
    BI.Storable (upEmb : UEmb _ 𝕄) ((sched (F := F) m ρ).payload g r d) := by
  show BI.Storable upEmb ((kOf g.2).elim iprop(emp) fun k => pay m ρ g.1.1 k d)
  cases kOf g.2 with
  | none => show BI.Storable upEmb (iprop(emp) : sProp 𝕄); infer_instance
  | some k => exact pay_storable m ρ _ k d

section Sched
variable (c : Dev nD) (k : Fin 15)

omit [FloatOps F] [Named F] in
theorem duties_cell : (sched (F := F) m ρ).duties (kcell (c, k)) 0 = dut k := by
  dsimp only [sched]; rw [if_pos ⟨rfl, rfl⟩, kOf_csem]; rfl
omit [FloatOps F] [Named F] in
theorem duties_later (g : GSem nD τ sig) : ∀ r, 1 ≤ r → (sched (F := F) m ρ).duties g r = ∅ :=
  fun r hr => by dsimp only [sched]; rw [if_neg fun h => by omega]
omit [FloatOps F] [Named F] in
theorem amount_cell (d : Bool) : (sched (F := F) m ρ).amount (kcell (c, k)) 0 d = amt k := by
  dsimp only [sched]; rw [kOf_csem]; rfl
omit [FloatOps F] [Named F] in
theorem payload_cell (d : Bool) : (sched (F := F) m ρ).payload (kcell (c, k)) 0 d = pay m ρ c k d := by
  dsimp only [sched]; rw [kOf_csem]; rfl
omit [FloatOps F] [Named F] in
theorem expect_bar : (sched (F := F) m ρ).expect (kcell (c, 0)) 0 = 2 := by
  unfold Schedule.expect Schedule.amountOf
  rw [duties_cell, Finset.sum_congr rfl fun d _ => amount_cell m ρ c 0 d]; rfl
omit [FloatOps F] [Named F] in
theorem expect_cell (hk : k ≠ 0) : (sched (F := F) m ρ).expect (kcell (c, k)) 0 = amt k := by
  unfold Schedule.expect Schedule.amountOf
  rw [duties_cell, dut, if_neg hk, Finset.sum_singleton, amount_cell]
omit [FloatOps F] [Named F] in
theorem rest_bar : bigSep ((sched (F := F) m ρ).duties (kcell (c, 0)) 0 \ ∅) (fun d => (sched (F := F) m ρ).payload (kcell (c, 0)) 0 d)
    = iprop(pay m ρ c 0 false ∗ pay m ρ c 0 true) := by
  rw [Finset.sdiff_empty, duties_cell, dut, if_pos rfl, bigSep_univ_eq_bigSepL [false, true] (by decide) (by decide), bigSepL_cons_cons, bigSepL_singleton,
    payload_cell, payload_cell]; rfl
omit [FloatOps F] [Named F] in
theorem rest_cell (hk : k ≠ 0) : bigSep ((sched (F := F) m ρ).duties (kcell (c, k)) 0 \ ∅) (fun d => (sched (F := F) m ρ).payload (kcell (c, k)) 0 d)
    = pay m ρ c k false := by
  rw [Finset.sdiff_empty, duties_cell, dut, if_neg hk, bigSep_singleton, payload_cell]
end Sched

/-! ## What each core owes at launch; the levels -/

/-- Who a core pays, in the order it pays: the barriers of its neighbours, then the receive cells of the transfers. -/
abbrev dueL : List (Bool × Fin 15) := [(false, 0), (true, 0), (true, 8), (false, 12), (true, 9), (false, 13), (true, 10), (true, 11), (false, 14)]
abbrev tgt (b : Bool) (c : Dev nD) : Dev nD := if b then nxt c else prv c

/-- The sum of the debts in a list. -/
def debt (c : Dev nD) : List (Bool × Fin 15) → CellTallies nD τ sig Unit
  | [] => 0
  | x :: l => debt c l + tallyAt (kcell (tgt x.1 c, x.2)) () (amt x.2)

def O₀ (c : Dev nD) : CellTallies nD τ sig Unit := debt c dueL

/-- The level of a cell: the barrier 1, the receive cells 2, 3 and 4 by hop, everything else 0. -/
def lvk : Fin 15 → ℕ := ![1, 0, 0, 0, 0, 0, 0, 0, 2, 3, 4, 4, 2, 3, 4]
def L (g : GSem nD τ sig) : Finset Unit := if g.1.2 = .tc then {()} else ∅
def lvs (sm : SemLoc sig) : ℕ := (kOf sm).elim 0 lvk
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_csem (k : Fin 15) : lvs (csem k) = lvk k := by unfold lvs; rw [kOf_csem]; rfl

theorem debt_pos {c : Dev nD} {l : List (Bool × Fin 15)} {g : GSem nD τ sig} {u : Unit} (h : 0 < debt c l g u) :
    ∃ x ∈ l, g = kcell (tgt x.1 c, x.2) := by
  induction l with
  | nil => exact absurd h (Nat.lt_irrefl 0)
  | cons x l ih =>
    unfold debt at h
    rw [Pi.add_apply, Finsupp.add_apply, tallyAt_apply] at h
    by_cases hx : g = kcell (tgt x.1 c, x.2)
    · exact ⟨x, List.mem_cons_self, hx⟩
    · rw [if_neg fun h' => hx h'.1, Nat.add_zero] at h
      obtain ⟨y, hy, e⟩ := ih h
      exact ⟨y, List.mem_cons_of_mem _ hy, e⟩

omit [FloatOps F] [Named F] in
/-- A core may wait for a semaphore below everything it still owes. -/
theorem mayWait_debt (c : Dev nD) (sm : SemLoc sig) (l : List (Bool × Fin 15)) (h : ∀ x ∈ l, lvs sm < lvk x.2) :
    (levAts L lv : sProp 𝕄) ⊢ MayWait (c : Thread nD τ) sm () (debt c l) :=
  MayOwe.of_cut (L := L) (lev := lv) (lvs sm) (fun p hp => by rw [Finset.mem_singleton.mp hp, L_tc]; exact Finset.mem_singleton_self _)
    (fun g u hg => by obtain ⟨x, _, rfl⟩ := debt_pos hg; rw [L_tc]; exact Finset.mem_singleton_self _)
    (fun p hp => by rw [Finset.mem_singleton.mp hp]; exact le_rfl)
    (fun g u hg => by obtain ⟨x, hx, rfl⟩ := debt_pos hg; unfold lv; rw [lvs_csem]; exact h x hx)

end Cert.Ring

end
-- ==== Proof.Steps.lean ====
/-
One step of the protocol each: a wait that ends its cell, a transfer to a neighbour, a local copy of a group of keys or
values and the wait for it; and what the landed contents are.
-/
module

public import proofs.«01_k».proof.Proof.Protocol

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-! ## The records every core has of every cell -/

def records : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent : BI.Persistent (records (F := F) m ρ K) := by unfold records; infer_instance

omit [FloatOps F] [Named F] in
theorem inv_at (ck : Dev nD × Fin 15) : records (F := F) m ρ K ⊢ cellInv ER (sched m ρ) (K ck) (kcell ck) := by
  unfold records; exact sep_elim_left.trans (bigSep_elim (Finset.mem_univ ck))
omit [FloatOps F] [Named F] in
theorem reached_at (ck : Dev nD × Fin 15) : records (F := F) m ρ K ⊢ reached ER (kcell ck) 0 := by
  unfold records; exact sep_elim_right.trans (bigSep_elim (Finset.mem_univ ck))

/-- What core `c` owes, whatever it has waited for. -/
def oW (c : Dev nD) (O : CellTallies nD τ sig Unit) : sProp 𝕄 := iprop(∃ W : Waits sig Unit, owes (c : Thread nD τ) O W)

/-- What a wait for cell `k` of `c` spends: the place at its round and the credit. -/
def wt (c : Dev nD) (k : Fin 15) : sProp 𝕄 := iprop(atPos ER (kcell (c, k)) 0 ∅ 0 ∗ cred (tallyAt (kcell (c, k)) () (amt k)))

/-- The send and receive cells of transfer `t`, and whether it goes forwards. -/
abbrev ks (t : Fin 7) : Fin 15 := ⟨1 + t.val, by omega⟩
abbrev kr (t : Fin 7) : Fin 15 := ⟨8 + t.val, by omega⟩
abbrev dirT : Fin 7 → Bool := ![true, true, true, true, false, false, false]

/-- What sending transfer `t` from `c` spends: both duties, and the place at the send cell the later wait needs. -/
def sg (c : Dev nD) (t : Fin 7) : sProp 𝕄 :=
  iprop(dutyTok ER (kcell (c, ks t)) 0 false ∗ dutyTok ER (kcell (tgt (dirT t) c, kr t)) 0 false ∗ atPos ER (kcell (c, ks t)) 0 ∅ 0)

theorem false_mem_dut (k : Fin 15) : false ∈ dut k := by revert k; decide
theorem amt_ks_kr (t : Fin 7) : amt (ks t) = amt (kr t) := by fin_cases t <;> rfl

/-- A wait for a cell of one duty: the payload, and the cell ends with its counter at zero. -/
theorem step_wait (c : Dev nD) (k : Fin 15) (hk : k ≠ 0) {sem : DmaSem sig} (e : csem k = .dma sem) {sp sp' : Space} {s s' : Shape} {el el' : EltTy}
    {src : Memref sig .tc sp' s' el'} {dst : Memref sig .tc sp s el} {hsrc : src.view.WordExact} {hdst : dst.view.WordExact}
    (hN : dst.view.dmaCredit = amt k) (l : List (Bool × Fin 15)) (hl : ∀ x ∈ l, lvk k < lvk x.2)
    {α : Type} {Q : α → sProp 𝕄} {kt : PUnit → Prog (TpuEff nD τ sig (Elt F) Λ₀ .tc) α} :
    iprop(records m ρ K ∗ levAts L lv ∗ wt c k ∗ oW c (debt c l))
      ⊢ iprop(((pay m ρ c k false ∗ semVal (kcell (c, k)) 0 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sem src dst hsrc hdst) kt) Q) := by
  have hw : ∀ X : PUnit → sProp 𝕄, wpE (defs₀ (F := F)) 𝒱₀ (c : Thread nD τ) none Set.univ (.waitDma2 sem src dst hsrc hdst) X
      = waitSpec (c : Thread nD τ) Set.univ (csem k) (amt k) X := fun X => by rw [wpE_waitDma2_eq, e, hN]
  unfold wt oW
  iintro ⟨#HR, #Hlev, ⟨Hat, Hc⟩, ⟨%W, HO⟩⟩ Hk
  ihave #Hi := (inv_at m ρ K (c, k)) $$ HR
  iapply (Rounds.wp_wait_rest_token 𝒱₀ ER (sched m ρ) (c : Thread nD τ) none (κ := K (c, k)) hw (Set.mem_univ _) () (O := debt c l) (W := W)
      (R := 0) (m := 0) (T := ∅) (by rw [Nat.zero_add]; exact (expect_cell m ρ c k hk).symm)) $$ [Hc HO Hat]
  · isplitr; · iexact Hi
    isplitl [Hc]; · iexact Hc
    isplitl [HO]; · iexact HO
    isplitr; · iapply (mayWait_debt c (csem k) l (by rw [lvs_csem]; exact hl)); iexact Hlev
    iexact Hat
  iintro ⟨HO, Hat, -, Hp⟩
  imod (Rounds.cell_close ER (sched m ρ) (Set.mem_univ (K (c, k))) (fun h => h) (R := 0 + 1) (duties_later m ρ (kcell (c, k)))) $$ [Hat] with Hz
  · isplitr; · iexact Hi
    iexact Hat
  iapply Hk
  isplitl [Hp]; · iapply (Entails.of_eq (rest_cell m ρ c k hk)); iexact Hp
  isplitl [Hz]; · iexact Hz
  iexists _; iexact HO

/-- A transfer to a neighbour whose landing elements the sender holds. -/
theorem step_send (c n : Dev nD) (t : Fin 7) (hn : n = tgt (dirT t) c) {sS sR : SemLoc sig} (eS : csem (ks t) = sS) (eR : csem (kr t) = sR)
    {s : Shape} {el : EltTy} {src dst : Memref sig .tc .vmem s el} {hsc : (dst : Memref sig (Dev.tc n : Thread nD τ).2.kind .vmem s el).view.ref.isScScratch = false}
    {hsrc : src.view.WordExact} {hdst : dst.view.WordExact}
    {hsem : DmaTarget.Typed .vmem sR (.remote (Dev.tc n : Thread nD τ) dst sS hsc)}
    (hN : dst.view.amount sR = amt (kr t)) (l : List (Bool × Fin 15))
    {q : PosShare TreeShare} {fs : Buf (Elt F) (src.view.loc (c : Thread nD τ))} {fd : Buf (Elt F) (dst.view.loc (tgt (dirT t) c : Thread nD τ))}
    (hpay₁ : (src.view.loc (c : Thread nD τ) ↦[src.view.set]{q} fs) ⊢ pay m ρ c (ks t) false)
    (hpay₂ : (dst.view.loc (tgt (dirT t) c : Thread nD τ) ↦[dst.view.set]{fullShare} (dst.view.write (Elt F) fd (src.view.read (Elt F) fs) Finset.univ))
      ⊢ pay m ρ (tgt (dirT t) c) (kr t) false)
    {α : Type} {Q : α → sProp 𝕄} {kt : PUnit → Prog (TpuEff nD τ sig (Elt F) Λ₀ .tc) α} :
    iprop(records m ρ K ∗ (src.view.loc (c : Thread nD τ) ↦[src.view.set]{q} fs)
        ∗ (dst.view.loc (tgt (dirT t) c : Thread nD τ) ↦[dst.view.set]{fullShare} fd) ∗ sg c t ∗ oW c (debt c ((dirT t, kr t) :: l)))
      ⊢ iprop(((wt c (ks t) ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst sS hsc) sR hsrc hdst hsem) kt) Q) := by
  subst hn eS eR
  unfold wt sg oW
  iintro ⟨#HR, Hs, Hd, ⟨HtS, HtR, Hat⟩, ⟨%W, HO⟩⟩ Hk
  ihave #Hi1 := (inv_at m ρ K (c, ks t)) $$ HR
  ihave #Hi2 := (inv_at m ρ K (tgt (dirT t) c, kr t)) $$ HR
  ihave #Hr1 := (reached_at m ρ K (c, ks t)) $$ HR
  ihave #Hr2 := (reached_at m ρ K (tgt (dirT t) c, kr t)) $$ HR
  iapply (Rounds.wp_send_pointsTo 𝒱₀ ER (sched m ρ) (c : Thread nD τ) none (κ₁ := K (c, ks t)) (κ₂ := K (tgt (dirT t) c, kr t))
      (r₁ := 0) (r₂ := 0) (d₁ := false) (d₂ := false) (fs := fs) (fd := fd)
      (by rw [show ((c : Thread nD τ), csem (ks t)) = kcell (c, ks t) from rfl, duties_cell]; exact false_mem_dut _)
      (by rw [show ((tgt (dirT t) c : Thread nD τ), csem (kr t)) = kcell (tgt (dirT t) c, kr t) from rfl, duties_cell]; exact false_mem_dut _)
      () () (amt (kr t)) hN ((amount_cell m ρ c (ks t) false).trans (amt_ks_kr t)) (amount_cell m ρ (tgt (dirT t) c) (kr t) false) (debt c l) rfl (W := W)
      (hpay₁.trans (Entails.of_eq (payload_cell m ρ c (ks t) false).symm))
      (hpay₂.trans (Entails.of_eq (payload_cell m ρ (tgt (dirT t) c) (kr t) false).symm))) $$ [Hs Hd HtS HtR HO]
  · isplitr; · iexact Hi1
    isplitr; · iexact Hi2
    isplitl [Hs]; · iexact Hs
    isplitl [Hd]; · iexact Hd
    isplitl [HO]; · iexact HO
    isplitl [HtS]; · iexact HtS
    isplitr; · iexact Hr1
    isplitl [HtR]; · iexact HtR
    iexact Hr2
  iintro ⟨Hc, HO⟩
  iapply Hk
  isplitl [Hat Hc]
  · isplitl [Hat]; · iexact Hat
    rw [amt_ks_kr]; iexact Hc
  iexists _; iexact HO

/-! ## Landed contents -/

omit [FloatOps F] [Named F] in
theorem WQ_hop (c : Dev nD) (i i' : S4x1024x1024.Idx) (h0 : (i' 0).val = (i 0).val + 1) (h1 : i' 1 = i 1) (h2 : i' 2 = i 2) :
    WQ m ρ (nxt c) i' = WQ m ρ c i := by
  unfold WQ
  have : bwd (nxt c) (i' 0) = bwd c (i 0) := by
    apply Fin.ext
    have a : (i' 0).val < 4 := (i' 0).isLt
    have b : (i 0).val < 4 := (i 0).isLt
    have d : c.val < 4 := c.isLt
    show ((c.val + 1) % 4 + 4 - (i' 0).val) % 4 = (c.val + 4 - (i 0).val) % 4
    omega
  rw [this, h1, h2]

omit [FloatOps F] [Named F] in
theorem WO_hop (c : Dev nD) (i i' : S4x1024x1024.Idx) (h0 : (i' 0).val = (i 0).val + 1) (h1 : i' 1 = i 1) (h2 : i' 2 = i 2) :
    WO m ρ (prv c) i' = WO m ρ c i := by
  unfold WO
  have : fwd (prv c) (i' 0) = fwd c (i 0) := by
    apply Fin.ext
    have a : (i' 0).val < 4 := (i' 0).isLt
    have b : (i 0).val < 4 := (i 0).isLt
    have d : c.val < 4 := c.isLt
    show ((c.val + 3) % 4 + (i' 0).val) % 4 = (c.val + (i 0).val) % 4
    omega
  rw [this, h1, h2]

/-- A block moved between two places of a weight buffer, read through the reshaped slices. -/
theorem landed_slice {b : Ref sig .tc} {Val : EltTy → Type} {off off' size : Fin b.ty.shape.rank → ℕ} {inb inb'} {s' : Shape}
    (h : s'.numel = (Rect.unit (s := b.ty.shape) off size inb).shape.numel)
    (fs fd G : b.ty.Contents Val)
    (hG : ∀ y : (Rect.unit (s := b.ty.shape) off size inb).shape.Idx,
      G ((Rect.unit (s := b.ty.shape) off' size inb').emb y) = fs ((Rect.unit (s := b.ty.shape) off size inb).emb y)) :
    ∀ i ∈ (Rect.unit (s := b.ty.shape) off' size inb').set,
      (((View.whole b).slice (Rect.unit (s := b.ty.shape) off' size inb')).reshape s' h).write Val fd
        ((((View.whole b).slice (Rect.unit (s := b.ty.shape) off size inb)).reshape s' h).read Val fs) Finset.univ i = G i := by
  intro i hi
  rw [← View.set_slice_whole b (Rect.unit off' size inb'), ← View.set_reshape (v := (View.whole b).slice (Rect.unit off' size inb')) (s' := s') h] at hi
  obtain ⟨x, -, rfl⟩ := Finset.mem_map.1 hi
  rw [View.write_emb_of_mem _ _ (Finset.mem_univ x), View.read_apply, cast_cast]
  exact (hG (Shape.reshapeEquiv h x)).symm

/-! ## The local copies of keys and values -/

/-- A copy under way from the large memory into the staging slot: what the wait for it returns, and the rest of the source. -/
def fl (c : Dev nD) (sm : SemLoc sig) (src : Memref sig .tc .hbm S1024x8x128 .f32) (dst : Memref sig .tc .vmem S1024x8x128 .f32)
    (fs : Buf (Elt F) (src.view.loc (c : Thread nD τ))) : sProp 𝕄 :=
  iprop(∃ fd : Buf (Elt F) (dst.view.loc (c : Thread nD τ)),
    Transfers.Flight EC (c : Thread nD τ) sm () (dst.view.amount sm)
        iprop((dst.view.loc (c : Thread nD τ) ↦[dst.view.set]{fullShare} (dst.view.write (Elt F) fd (src.view.read (Elt F) fs) Finset.univ))
          ∗ (src.view.loc (c : Thread nD τ) ↦[src.view.set]{fullShare} fs))
      ∗ (src.view.loc (c : Thread nD τ) ↦[Finset.univ \ src.view.set]{fullShare} fs))

theorem step_fetch (c : Dev nD) {sm : SemLoc sig} {src : Memref sig .tc .hbm S1024x8x128 .f32} {dst : Memref sig .tc .vmem S1024x8x128 .f32}
    {hsrc : src.view.WordExact} {hdst : dst.view.WordExact} {hsem : DmaTarget.Typed (nD := nD) (τ := τ) .hbm sm (.here (p := Proc.tc) dst)}
    (fs : Buf (Elt F) (src.view.loc (c : Thread nD τ))) (hN0 : 0 < dst.view.amount sm)
    {α : Type} {Q : α → sProp 𝕄} {kt : PUnit → Prog (TpuEff nD τ sig (Elt F) Λ₀ .tc) α} :
    iprop((src.view.loc (c : Thread nD τ) ↦{fullShare} fs) ∗ (∃ fd : Buf (Elt F) (dst.view.loc (c : Thread nD τ)), dst.view.loc (c : Thread nD τ) ↦[dst.view.set]{fullShare} fd)
        ∗ semVal ((c : Thread nD τ), sm) 0)
      ⊢ iprop((fl c sm src dst fs -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma src (.here dst) sm hsrc hdst hsem) kt) Q) := by
  iintro ⟨Hs, ⟨%fd, Hd⟩, Hz⟩ Hk
  ihave Hs := (pointsTo_split_subset (Finset.subset_univ src.view.set)).1 $$ Hs
  icases Hs with ⟨Hs, Hr⟩
  iapply (Transfers.wp_dmaLocal EC 𝒱₀ (c : Thread nD τ) none () (dst.view.amount sm) rfl hN0 subset_rfl) $$ [Hs Hd Hz]
  · isplitl [Hs]; · iexact Hs
    isplitl [Hd]; · iexact Hd
    iexact Hz
  iintro Hf
  iapply Hk
  unfold fl
  iexists fd
  isplitl [Hf]
  · iexact Hf
  iexact Hr

theorem step_land (c : Dev nD) {sem : DmaSem sig} {src : Memref sig .tc .hbm S1024x8x128 .f32} {dst : Memref sig .tc .vmem S1024x8x128 .f32}
    {hsrc : src.view.WordExact} {hdst : dst.view.WordExact}
    (fs : Buf (Elt F) (src.view.loc (c : Thread nD τ))) (G : Buf (Elt F) (dst.view.loc (c : Thread nD τ)))
    (hG : ∀ fd : Buf (Elt F) (dst.view.loc (c : Thread nD τ)), ∀ i ∈ dst.view.set, dst.view.write (Elt F) fd (src.view.read (Elt F) fs) Finset.univ i = G i)
    (l : List (Bool × Fin 15)) (hl : ∀ x ∈ l, lvs (.dma sem) < lvk x.2)
    {α : Type} {Q : α → sProp 𝕄} {kt : PUnit → Prog (TpuEff nD τ sig (Elt F) Λ₀ .tc) α} :
    iprop(fl c (.dma sem) src dst fs ∗ levAts L lv ∗ oW c (debt c l))
      ⊢ iprop((((src.view.loc (c : Thread nD τ) ↦{fullShare} fs) ∗ (dst.view.loc (c : Thread nD τ) ↦[dst.view.set]{fullShare} G)
              ∗ semVal ((c : Thread nD τ), .dma sem) 0 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sem src dst hsrc hdst) kt) Q) := by
  unfold fl oW
  iintro ⟨⟨%fd, Hf, Hr⟩, #Hlev, ⟨%W, HO⟩⟩ Hk
  iapply (Transfers.wp_waitLocalO EC 𝒱₀ (c : Thread nD τ) none () (N := dst.view.amount (.dma sem)) rfl (O := debt c l) (W := W)) $$ [Hf HO]
  · isplitl [Hf]; · iexact Hf
    isplitl [HO]; · iexact HO
    iapply (mayWait_debt c (.dma sem) l hl); iexact Hlev
  iintro ⟨⟨Hd, Hs⟩, Hz, HO⟩
  iapply Hk
  isplitl [Hs Hr]
  · iapply (pointsTo_split_subset (Finset.subset_univ src.view.set)).2
    isplitl [Hs] <;> iassumption
  isplitl [Hd]
  · iapply (Entails.of_eq (pointsTo_congr (hG fd))); iexact Hd
  isplitl [Hz]; · iexact Hz
  iexists _; iexact HO

end Cert.Ring

end
-- ==== Proof.Sends.lean ====
/-
The seven transfers between neighbours and the local copies, with the buffers' slots, semaphores and contents the kernel
gives them; and the reads of the slots.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-! ## The semaphores as the kernel names them -/

abbrev s4 (b : DmaSems sig S4) (r : Fin 4) : DmaSem sig := match r with
  | 0 => ((b.slice (Rect.unit (s := S4) ![0] S1.size inb_S4_S1_0)).squeeze S_ squeezes_S1_S_).sem
  | 1 => ((b.slice (Rect.unit (s := S4) ![1] S1.size inb_S4_S1_1)).squeeze S_ squeezes_S1_S_).sem
  | 2 => ((b.slice (Rect.unit (s := S4) ![2] S1.size inb_S4_S1_2)).squeeze S_ squeezes_S1_S_).sem
  | 3 => ((b.slice (Rect.unit (s := S4) ![3] S1.size inb_S4_S1_3)).squeeze S_ squeezes_S1_S_).sem
abbrev s2 (b : DmaSems sig S2) (r : Fin 2) : DmaSem sig := match r with
  | 0 => ((b.slice (Rect.unit (s := S2) ![0] S1.size inb_S2_S1_0)).squeeze S_ squeezes_S1_S_).sem
  | 1 => ((b.slice (Rect.unit (s := S2) ![1] S1.size inb_S2_S1_1)).squeeze S_ squeezes_S1_S_).sem

/-! ## The elements of a slot -/

omit [FloatOps F] [Named F] in
theorem set_sl {b : Ref sig .tc} (R : Rect b.ty.shape) {s' : Shape} (h : s'.numel = R.shape.numel) :
    (((View.whole b).slice R).reshape s' h).set = R.set := by
  rw [View.set_reshape, View.set_slice_whole]

/-- The place of an element of a rectangle of unit stride. -/
theorem unit_emb {s : Shape} (off size : Fin s.rank → ℕ) (inb) (y : (Rect.unit (s := s) off size inb).shape.Idx) (a : Fin s.rank) :
    ((Rect.unit (s := s) off size inb).emb y a).val = off a + (y a).val := by
  rw [Rect.emb_apply]; show off a + 1 * (y a).val = _; rw [Nat.one_mul]
theorem unit_same {s : Shape} {off off' size : Fin s.rank → ℕ} (inb inb') (y : (Rect.unit (s := s) off size inb).shape.Idx) (a : Fin s.rank)
    (h : off' a = off a) :
    ((Rect.unit (s := s) off' size inb').emb y a).val = ((Rect.unit (s := s) off size inb).emb y a).val := by
  rw [unit_emb, unit_emb, h]
theorem unit_hop {s : Shape} {off off' size : Fin s.rank → ℕ} (inb inb') (y : (Rect.unit (s := s) off size inb).shape.Idx) (a : Fin s.rank)
    (h : off' a = off a + 1) :
    ((Rect.unit (s := s) off' size inb').emb y a).val = ((Rect.unit (s := s) off size inb).emb y a).val + 1 := by
  rw [unit_emb, unit_emb, h]; omega

/-- Transfer 0: into the slot `R1` of the neighbour, from the slot `R0` here. -/
theorem send0 (c n : Dev nD) (hn : n = nxt c) {hsc : ((sq qM 1) : Memref sig (Dev.tc n : Thread nD τ).2.kind .vmem _ .bf16).view.ref.isScScratch = false}
    {hsrc : (sq qM 0).view.WordExact} {hdst : (sq qM 1).view.WordExact}
    {hsem : DmaTarget.Typed .vmem (.dma (s4 cc0_scratch4 1)) (.remote (Dev.tc n : Thread nD τ) (sq qM 1) (.dma (s4 cc0_scratch3 0)) hsc)}
    (l : List (Bool × Fin 15)) {α : Type} {Q : α → sProp 𝕄} {kt : PUnit → Prog (TpuEff nD τ sig (Elt F) Λ₀ .tc) α} :
    iprop(records m ρ K ∗ qP m ρ c R0.set fullShare.right ∗ qE (nxt c) R1.set ∗ sg c 0 ∗ oW c (debt c ((true, 8) :: l)))
      ⊢ iprop(((wt c 1 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sq qM 0) (.remote (Dev.tc n : Thread nD τ) (sq qM 1) (.dma (s4 cc0_scratch3 0)) hsc) (.dma (s4 cc0_scratch4 1)) hsrc hdst hsem) kt) Q) := by
  have e1 : (sq qM 0).view.set = R0.set := set_sl (b := cc0_scratch0) R0 (squeezes_S1x1024x1024_S1024x1024).numel_eq
  have e2 : (sq qM 1).view.set = R1.set := set_sl (b := cc0_scratch0) R1 (squeezes_S1x1024x1024_S1024x1024).numel_eq
  have hl : ∀ fd : (cc0_scratch0 : Ref sig .tc).ty.Contents (Elt F), ∀ i ∈ R1.set,
      (sq qM 1).view.write (Elt F) fd ((sq qM 0).view.read (Elt F) (WQ m ρ c)) Finset.univ i = WQ m ρ (nxt c) i := fun fd =>
    landed_slice (b := cc0_scratch0) (squeezes_S1x1024x1024_S1024x1024).numel_eq (WQ m ρ c) fd (WQ m ρ (nxt c))
      fun y => WQ_hop m ρ c _ _ (unit_hop _ _ y 0 rfl) (Fin.ext (unit_same _ _ y 1 rfl)) (Fin.ext (unit_same _ _ y 2 rfl))
  iintro ⟨HR, Hs, Hd, Hg, HO⟩ Hk
  unfold qP qE
  icases Hd with ⟨%fd, Hd⟩
  iapply (step_send m ρ K c n 0 hn (src := sq qM 0) (dst := sq qM 1) (sS := .dma (s4 cc0_scratch3 0)) (sR := .dma (s4 cc0_scratch4 1)) rfl rfl (hsrc := hsrc) (hdst := hdst) (hsem := hsem) rfl l
    (q := fullShare.right) (fs := WQ m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 1: into the slot `R2` of the neighbour, from the slot `R1` here. -/
theorem send1 (c n : Dev nD) (hn : n = nxt c) {hsc : ((sq qM 2) : Memref sig (Dev.tc n : Thread nD τ).2.kind .vmem _ .bf16).view.ref.isScScratch = false}
    {hsrc : (sq qM 1).view.WordExact} {hdst : (sq qM 2).view.WordExact}
    {hsem : DmaTarget.Typed .vmem (.dma (s4 cc0_scratch4 2)) (.remote (Dev.tc n : Thread nD τ) (sq qM 2) (.dma (s4 cc0_scratch3 1)) hsc)}
    (l : List (Bool × Fin 15)) {α : Type} {Q : α → sProp 𝕄} {kt : PUnit → Prog (TpuEff nD τ sig (Elt F) Λ₀ .tc) α} :
    iprop(records m ρ K ∗ qP m ρ c R1.set fullShare.right ∗ qE (nxt c) R2.set ∗ sg c 1 ∗ oW c (debt c ((true, 9) :: l)))
      ⊢ iprop(((wt c 2 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sq qM 1) (.remote (Dev.tc n : Thread nD τ) (sq qM 2) (.dma (s4 cc0_scratch3 1)) hsc) (.dma (s4 cc0_scratch4 2)) hsrc hdst hsem) kt) Q) := by
  have e1 : (sq qM 1).view.set = R1.set := set_sl (b := cc0_scratch0) R1 (squeezes_S1x1024x1024_S1024x1024).numel_eq
  have e2 : (sq qM 2).view.set = R2.set := set_sl (b := cc0_scratch0) R2 (squeezes_S1x1024x1024_S1024x1024).numel_eq
  have hl : ∀ fd : (cc0_scratch0 : Ref sig .tc).ty.Contents (Elt F), ∀ i ∈ R2.set,
      (sq qM 2).view.write (Elt F) fd ((sq qM 1).view.read (Elt F) (WQ m ρ c)) Finset.univ i = WQ m ρ (nxt c) i := fun fd =>
    landed_slice (b := cc0_scratch0) (squeezes_S1x1024x1024_S1024x1024).numel_eq (WQ m ρ c) fd (WQ m ρ (nxt c))
      fun y => WQ_hop m ρ c _ _ (unit_hop _ _ y 0 rfl) (Fin.ext (unit_same _ _ y 1 rfl)) (Fin.ext (unit_same _ _ y 2 rfl))
  iintro ⟨HR, Hs, Hd, Hg, HO⟩ Hk
  unfold qP qE
  icases Hd with ⟨%fd, Hd⟩
  iapply (step_send m ρ K c n 1 hn (src := sq qM 1) (dst := sq qM 2) (sS := .dma (s4 cc0_scratch3 1)) (sR := .dma (s4 cc0_scratch4 2)) rfl rfl (hsrc := hsrc) (hdst := hdst) (hsem := hsem) rfl l
    (q := fullShare.right) (fs := WQ m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 2: into the slot `R3l` of the neighbour, from the slot `R2l` here. -/
theorem send2 (c n : Dev nD) (hn : n = nxt c) {hsc : ((q3l) : Memref sig (Dev.tc n : Thread nD τ).2.kind .vmem _ .bf16).view.ref.isScScratch = false}
    {hsrc : (q2l).view.WordExact} {hdst : (q3l).view.WordExact}
    {hsem : DmaTarget.Typed .vmem (.dma (s2 cc0_scratch8 0)) (.remote (Dev.tc n : Thread nD τ) (q3l) (.dma (s2 cc0_scratch7 0)) hsc)}
    (l : List (Bool × Fin 15)) {α : Type} {Q : α → sProp 𝕄} {kt : PUnit → Prog (TpuEff nD τ sig (Elt F) Λ₀ .tc) α} :
    iprop(records m ρ K ∗ qP m ρ c R2l.set fullShare.right ∗ qE (nxt c) R3l.set ∗ sg c 2 ∗ oW c (debt c ((true, 10) :: l)))
      ⊢ iprop(((wt c 3 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (q2l) (.remote (Dev.tc n : Thread nD τ) (q3l) (.dma (s2 cc0_scratch7 0)) hsc) (.dma (s2 cc0_scratch8 0)) hsrc hdst hsem) kt) Q) := by
  have e1 : (q2l).view.set = R2l.set := set_sl (b := cc0_scratch0) R2l (squeezes_S1x1024x512_S1024x512).numel_eq
  have e2 : (q3l).view.set = R3l.set := set_sl (b := cc0_scratch0) R3l (squeezes_S1x1024x512_S1024x512).numel_eq
  have hl : ∀ fd : (cc0_scratch0 : Ref sig .tc).ty.Contents (Elt F), ∀ i ∈ R3l.set,
      (q3l).view.write (Elt F) fd ((q2l).view.read (Elt F) (WQ m ρ c)) Finset.univ i = WQ m ρ (nxt c) i := fun fd =>
    landed_slice (b := cc0_scratch0) (squeezes_S1x1024x512_S1024x512).numel_eq (WQ m ρ c) fd (WQ m ρ (nxt c))
      fun y => WQ_hop m ρ c _ _ (unit_hop _ _ y 0 rfl) (Fin.ext (unit_same _ _ y 1 rfl)) (Fin.ext (unit_same _ _ y 2 rfl))
  iintro ⟨HR, Hs, Hd, Hg, HO⟩ Hk
  unfold qP qE
  icases Hd with ⟨%fd, Hd⟩
  iapply (step_send m ρ K c n 2 hn (src := q2l) (dst := q3l) (sS := .dma (s2 cc0_scratch7 0)) (sR := .dma (s2 cc0_scratch8 0)) rfl rfl (hsrc := hsrc) (hdst := hdst) (hsem := hsem) rfl l
    (q := fullShare.right) (fs := WQ m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 3: into the slot `R3r` of the neighbour, from the slot `R2r` here. -/
theorem send3 (c n : Dev nD) (hn : n = nxt c) {hsc : ((q3r) : Memref sig (Dev.tc n : Thread nD τ).2.kind .vmem _ .bf16).view.ref.isScScratch = false}
    {hsrc : (q2r).view.WordExact} {hdst : (q3r).view.WordExact}
    {hsem : DmaTarget.Typed .vmem (.dma (s2 cc0_scratch8 1)) (.remote (Dev.tc n : Thread nD τ) (q3r) (.dma (s2 cc0_scratch7 1)) hsc)}
    (l : List (Bool × Fin 15)) {α : Type} {Q : α → sProp 𝕄} {kt : PUnit → Prog (TpuEff nD τ sig (Elt F) Λ₀ .tc) α} :
    iprop(records m ρ K ∗ qP m ρ c R2r.set fullShare.right ∗ qE (nxt c) R3r.set ∗ sg c 3 ∗ oW c (debt c ((true, 11) :: l)))
      ⊢ iprop(((wt c 4 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (q2r) (.remote (Dev.tc n : Thread nD τ) (q3r) (.dma (s2 cc0_scratch7 1)) hsc) (.dma (s2 cc0_scratch8 1)) hsrc hdst hsem) kt) Q) := by
  have e1 : (q2r).view.set = R2r.set := set_sl (b := cc0_scratch0) R2r (squeezes_S1x1024x512_S1024x512).numel_eq
  have e2 : (q3r).view.set = R3r.set := set_sl (b := cc0_scratch0) R3r (squeezes_S1x1024x512_S1024x512).numel_eq
  have hl : ∀ fd : (cc0_scratch0 : Ref sig .tc).ty.Contents (Elt F), ∀ i ∈ R3r.set,
      (q3r).view.write (Elt F) fd ((q2r).view.read (Elt F) (WQ m ρ c)) Finset.univ i = WQ m ρ (nxt c) i := fun fd =>
    landed_slice (b := cc0_scratch0) (squeezes_S1x1024x512_S1024x512).numel_eq (WQ m ρ c) fd (WQ m ρ (nxt c))
      fun y => WQ_hop m ρ c _ _ (unit_hop _ _ y 0 rfl) (Fin.ext (unit_same _ _ y 1 rfl)) (Fin.ext (unit_same _ _ y 2 rfl))
  iintro ⟨HR, Hs, Hd, Hg, HO⟩ Hk
  unfold qP qE
  icases Hd with ⟨%fd, Hd⟩
  iapply (step_send m ρ K c n 3 hn (src := q2r) (dst := q3r) (sS := .dma (s2 cc0_scratch7 1)) (sR := .dma (s2 cc0_scratch8 1)) rfl rfl (hsrc := hsrc) (hdst := hdst) (hsem := hsem) rfl l
    (q := fullShare.right) (fs := WQ m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 4: into the slot `R1` of the neighbour, from the slot `R0` here. -/
theorem send4 (c n : Dev nD) (hn : n = prv c) {hsc : ((sq oM 1) : Memref sig (Dev.tc n : Thread nD τ).2.kind .vmem _ .bf16).view.ref.isScScratch = false}
    {hsrc : (sq oM 0).view.WordExact} {hdst : (sq oM 1).view.WordExact}
    {hsem : DmaTarget.Typed .vmem (.dma (s4 cc0_scratch6 1)) (.remote (Dev.tc n : Thread nD τ) (sq oM 1) (.dma (s4 cc0_scratch5 0)) hsc)}
    (l : List (Bool × Fin 15)) {α : Type} {Q : α → sProp 𝕄} {kt : PUnit → Prog (TpuEff nD τ sig (Elt F) Λ₀ .tc) α} :
    iprop(records m ρ K ∗ oP m ρ c R0.set fullShare.right ∗ oE (prv c) R1.set ∗ sg c 4 ∗ oW c (debt c ((false, 12) :: l)))
      ⊢ iprop(((wt c 5 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sq oM 0) (.remote (Dev.tc n : Thread nD τ) (sq oM 1) (.dma (s4 cc0_scratch5 0)) hsc) (.dma (s4 cc0_scratch6 1)) hsrc hdst hsem) kt) Q) := by
  have e1 : (sq oM 0).view.set = R0.set := set_sl (b := cc0_scratch1) R0 (squeezes_S1x1024x1024_S1024x1024).numel_eq
  have e2 : (sq oM 1).view.set = R1.set := set_sl (b := cc0_scratch1) R1 (squeezes_S1x1024x1024_S1024x1024).numel_eq
  have hl : ∀ fd : (cc0_scratch1 : Ref sig .tc).ty.Contents (Elt F), ∀ i ∈ R1.set,
      (sq oM 1).view.write (Elt F) fd ((sq oM 0).view.read (Elt F) (WO m ρ c)) Finset.univ i = WO m ρ (prv c) i := fun fd =>
    landed_slice (b := cc0_scratch1) (squeezes_S1x1024x1024_S1024x1024).numel_eq (WO m ρ c) fd (WO m ρ (prv c))
      fun y => WO_hop m ρ c _ _ (unit_hop _ _ y 0 rfl) (Fin.ext (unit_same _ _ y 1 rfl)) (Fin.ext (unit_same _ _ y 2 rfl))
  iintro ⟨HR, Hs, Hd, Hg, HO⟩ Hk
  unfold oP oE
  icases Hd with ⟨%fd, Hd⟩
  iapply (step_send m ρ K c n 4 hn (src := sq oM 0) (dst := sq oM 1) (sS := .dma (s4 cc0_scratch5 0)) (sR := .dma (s4 cc0_scratch6 1)) rfl rfl (hsrc := hsrc) (hdst := hdst) (hsem := hsem) rfl l
    (q := fullShare.right) (fs := WO m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 5: into the slot `R2` of the neighbour, from the slot `R1` here. -/
theorem send5 (c n : Dev nD) (hn : n = prv c) {hsc : ((sq oM 2) : Memref sig (Dev.tc n : Thread nD τ).2.kind .vmem _ .bf16).view.ref.isScScratch = false}
    {hsrc : (sq oM 1).view.WordExact} {hdst : (sq oM 2).view.WordExact}
    {hsem : DmaTarget.Typed .vmem (.dma (s4 cc0_scratch6 2)) (.remote (Dev.tc n : Thread nD τ) (sq oM 2) (.dma (s4 cc0_scratch5 1)) hsc)}
    (l : List (Bool × Fin 15)) {α : Type} {Q : α → sProp 𝕄} {kt : PUnit → Prog (TpuEff nD τ sig (Elt F) Λ₀ .tc) α} :
    iprop(records m ρ K ∗ oP m ρ c R1.set fullShare.right ∗ oE (prv c) R2.set ∗ sg c 5 ∗ oW c (debt c ((false, 13) :: l)))
      ⊢ iprop(((wt c 6 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sq oM 1) (.remote (Dev.tc n : Thread nD τ) (sq oM 2) (.dma (s4 cc0_scratch5 1)) hsc) (.dma (s4 cc0_scratch6 2)) hsrc hdst hsem) kt) Q) := by
  have e1 : (sq oM 1).view.set = R1.set := set_sl (b := cc0_scratch1) R1 (squeezes_S1x1024x1024_S1024x1024).numel_eq
  have e2 : (sq oM 2).view.set = R2.set := set_sl (b := cc0_scratch1) R2 (squeezes_S1x1024x1024_S1024x1024).numel_eq
  have hl : ∀ fd : (cc0_scratch1 : Ref sig .tc).ty.Contents (Elt F), ∀ i ∈ R2.set,
      (sq oM 2).view.write (Elt F) fd ((sq oM 1).view.read (Elt F) (WO m ρ c)) Finset.univ i = WO m ρ (prv c) i := fun fd =>
    landed_slice (b := cc0_scratch1) (squeezes_S1x1024x1024_S1024x1024).numel_eq (WO m ρ c) fd (WO m ρ (prv c))
      fun y => WO_hop m ρ c _ _ (unit_hop _ _ y 0 rfl) (Fin.ext (unit_same _ _ y 1 rfl)) (Fin.ext (unit_same _ _ y 2 rfl))
  iintro ⟨HR, Hs, Hd, Hg, HO⟩ Hk
  unfold oP oE
  icases Hd with ⟨%fd, Hd⟩
  iapply (step_send m ρ K c n 5 hn (src := sq oM 1) (dst := sq oM 2) (sS := .dma (s4 cc0_scratch5 1)) (sR := .dma (s4 cc0_scratch6 2)) rfl rfl (hsrc := hsrc) (hdst := hdst) (hsem := hsem) rfl l
    (q := fullShare.right) (fs := WO m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

/-- Transfer 6: into the slot `R3` of the neighbour, from the slot `R2` here. -/
theorem send6 (c n : Dev nD) (hn : n = prv c) {hsc : ((sq oM 3) : Memref sig (Dev.tc n : Thread nD τ).2.kind .vmem _ .bf16).view.ref.isScScratch = false}
    {hsrc : (sq oM 2).view.WordExact} {hdst : (sq oM 3).view.WordExact}
    {hsem : DmaTarget.Typed .vmem (.dma (s4 cc0_scratch6 3)) (.remote (Dev.tc n : Thread nD τ) (sq oM 3) (.dma (s4 cc0_scratch5 2)) hsc)}
    (l : List (Bool × Fin 15)) {α : Type} {Q : α → sProp 𝕄} {kt : PUnit → Prog (TpuEff nD τ sig (Elt F) Λ₀ .tc) α} :
    iprop(records m ρ K ∗ oP m ρ c R2.set fullShare.right ∗ oE (prv c) R3.set ∗ sg c 6 ∗ oW c (debt c ((false, 14) :: l)))
      ⊢ iprop(((wt c 7 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sq oM 2) (.remote (Dev.tc n : Thread nD τ) (sq oM 3) (.dma (s4 cc0_scratch5 2)) hsc) (.dma (s4 cc0_scratch6 3)) hsrc hdst hsem) kt) Q) := by
  have e1 : (sq oM 2).view.set = R2.set := set_sl (b := cc0_scratch1) R2 (squeezes_S1x1024x1024_S1024x1024).numel_eq
  have e2 : (sq oM 3).view.set = R3.set := set_sl (b := cc0_scratch1) R3 (squeezes_S1x1024x1024_S1024x1024).numel_eq
  have hl : ∀ fd : (cc0_scratch1 : Ref sig .tc).ty.Contents (Elt F), ∀ i ∈ R3.set,
      (sq oM 3).view.write (Elt F) fd ((sq oM 2).view.read (Elt F) (WO m ρ c)) Finset.univ i = WO m ρ (prv c) i := fun fd =>
    landed_slice (b := cc0_scratch1) (squeezes_S1x1024x1024_S1024x1024).numel_eq (WO m ρ c) fd (WO m ρ (prv c))
      fun y => WO_hop m ρ c _ _ (unit_hop _ _ y 0 rfl) (Fin.ext (unit_same _ _ y 1 rfl)) (Fin.ext (unit_same _ _ y 2 rfl))
  iintro ⟨HR, Hs, Hd, Hg, HO⟩ Hk
  unfold oP oE
  icases Hd with ⟨%fd, Hd⟩
  iapply (step_send m ρ K c n 6 hn (src := sq oM 2) (dst := sq oM 3) (sS := .dma (s4 cc0_scratch5 2)) (sR := .dma (s4 cc0_scratch6 3)) rfl rfl (hsrc := hsrc) (hdst := hdst) (hsem := hsem) rfl l
    (q := fullShare.right) (fs := WO m ρ c) (fd := fd) (by rw [e1]; exact BI.Entails.refl _)
    (by rw [e2]; exact Entails.of_eq (pointsTo_congr (hl fd)))) $$ [HR Hs Hd Hg HO]
  rotate_left
  · iexact Hk
  isplitl [HR]; · iexact HR
  isplitl [Hs]; · rw [e1]; iexact Hs
  isplitl [Hd]; · rw [e2]; iexact Hd
  isplitl [Hg]; · iexact Hg
  iexact HO

end Cert.Ring

end
-- ==== Proof.Copies.lean ====
/-
The groups of keys and values copied in beside the transfers, and the reads and writes of the buffers.
-/
module

public import proofs.«01_k».proof.Proof.Sends
public import Idealize.ShloMosaic.Lib.Pointwise

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-! ## The staging slots of keys and values -/

abbrev RK0 : Rect S2x1024x8x128 := Rect.unit (s := S2x1024x8x128) ![0, 0, 0, 0] S1x1024x8x128.size inb_S2x1024x8x128_S1x1024x8x128_0_0_0_0
abbrev RK1 : Rect S2x1024x8x128 := Rect.unit (s := S2x1024x8x128) ![1, 0, 0, 0] S1x1024x8x128.size inb_S2x1024x8x128_S1x1024x8x128_1_0_0_0
abbrev kd0 : Memref sig .tc .vmem S1024x8x128 .f32 := (kvM.slice RK0 (fun _ => rfl)).squeeze S1024x8x128 squeezes_S1x1024x8x128_S1024x8x128
abbrev kd1 : Memref sig .tc .vmem S1024x8x128 .f32 := (kvM.slice RK1 (fun _ => rfl)).squeeze S1024x8x128 squeezes_S1x1024x8x128_S1024x8x128
abbrev grp (M : Memref sig .tc .hbm S1x1024x32x128 .f32) (off : Fin 4 → ℕ) (inb : ∀ a, off a + S1x1024x8x128.size a ≤ S1x1024x32x128.size a) : Memref sig .tc .hbm S1024x8x128 .f32 :=
  (M.slice (Rect.unit (s := S1x1024x32x128) off S1x1024x8x128.size inb) (fun _ => rfl)).squeeze S1024x8x128 squeezes_S1x1024x8x128_S1024x8x128

/-- Position `t`, head `h` of group `g`, feature `d` as an index of the keys or the values. -/
def ix4 (t : Fin 1024) (g : Fin 4) (h : Fin 8) (d : Fin 128) : S1x1024x32x128.Idx := fun k => match k with
  | 0 => (0 : Fin 1) | 1 => t | 2 => (⟨8 * g.val + h.val, by omega⟩ : Fin 32) | 3 => d

/-- The staging buffer holding group `g`: its first slot the keys, its second the values. -/
def KV (c : Dev nD) (g : Fin 4) : (cc0_scratch2 : Ref sig .tc).ty.Contents (Elt F) := fun i : S2x1024x8x128.Idx =>
  if (i 0).val = 0 then m ((c : Thread nD τ).loc main_arg2) (ix4 (i 1) g (i 2) (i 3))
  else m ((c : Thread nD τ).loc main_arg3) (ix4 (i 1) g (i 2) (i 3))

def kvP (c : Dev nD) (g : Fin 4) (S : Finset S2x1024x8x128.Idx) : sProp 𝕄 := (((c : Thread nD τ).loc cc0_scratch2) ↦[S]{fullShare} KV m c g)
def kvE (c : Dev nD) (S : Finset S2x1024x8x128.Idx) : sProp 𝕄 :=
  iprop(∃ f : Buf (Elt F) ((c : Thread nD τ).loc cc0_scratch2), ((c : Thread nD τ).loc cc0_scratch2) ↦[S]{fullShare} f)
def kP (c : Dev nD) : sProp 𝕄 := (((c : Thread nD τ).loc main_arg2) ↦{fullShare} m ((c : Thread nD τ).loc main_arg2))
def vP (c : Dev nD) : sProp 𝕄 := (((c : Thread nD τ).loc main_arg3) ↦{fullShare} m ((c : Thread nD τ).loc main_arg3))

omit [FloatOps F] [Named F] in
theorem kvP_E (c : Dev nD) (g S) : kvP (F := F) m c g S ⊢ kvE c S := by
  unfold kvP kvE; iintro H; iexists _; iexact H

omit [FloatOps F] [Named F] in
theorem landed0 (c : Dev nD) (g : Fin 4) (off : Fin 4 → ℕ) (inb : ∀ a, off a + S1x1024x8x128.size a ≤ S1x1024x32x128.size a) (hoff : off = ![0, 0, 8 * g.val, 0]) (fd : (cc0_scratch2 : Ref sig .tc).ty.Contents (Elt F)) :
    ∀ i ∈ kd0.view.set, kd0.view.write (Elt F) fd ((grp kM off inb).view.read (Elt F) (m ((c : Thread nD τ).loc main_arg2))) Finset.univ i = KV m c g i := by
  subst hoff
  intro i hi
  obtain ⟨x, -, rfl⟩ := Finset.mem_map.1 hi
  rw [View.write_emb_of_mem _ _ (Finset.mem_univ x), View.read_apply, cast_cast]
  let y : S1x1024x8x128.Idx := Shape.reshapeEquiv squeezes_S1x1024x8x128_S1024x8x128.numel_eq x
  have hy : (y 0).val = 0 := by have : (y 0).val < 1 := (y 0).isLt; omega
  show m ((c : Thread nD τ).loc main_arg2) ((Rect.unit (s := S1x1024x32x128) ![0, 0, 8 * g.val, 0] S1x1024x8x128.size inb).emb y) = KV m c g (RK0.emb y)
  have h0 : (RK0.emb y 0).val = 0 := by rw [unit_emb]; show 0 + (y 0).val = 0; omega
  unfold KV
  rw [if_pos h0]
  congr 1
  funext a
  apply Fin.ext
  rw [unit_emb]
  fin_cases a
  · show 0 + (y 0).val = 0; omega
  · show 0 + (y 1).val = (RK0.emb y 1).val; rw [unit_emb]; rfl
  · show 8 * g.val + (y 2).val = 8 * g.val + (RK0.emb y 2).val; rw [unit_emb]; show _ = 8 * g.val + (0 + (y 2).val); omega
  · show 0 + (y 3).val = (RK0.emb y 3).val; rw [unit_emb]; rfl

/-- The copy of group `g` into slot 0 under way. -/
def fl0 (c : Dev nD) (off : Fin 4 → ℕ) (inb : ∀ a, off a + S1x1024x8x128.size a ≤ S1x1024x32x128.size a) : sProp 𝕄 := fl c (.dma (s2 cc0_scratch9 0)) (grp kM off inb) kd0 (m ((c : Thread nD τ).loc main_arg2))

theorem fetch0 (c : Dev nD) (off : Fin 4 → ℕ) (inb : ∀ a, off a + S1x1024x8x128.size a ≤ S1x1024x32x128.size a) {hsrc : (grp kM off inb).view.WordExact} {hdst : kd0.view.WordExact}
    {hsem : DmaTarget.Typed (nD := nD) (τ := τ) .hbm (.dma (s2 cc0_scratch9 0)) (.here (p := Proc.tc) kd0)}
    {α : Type} {Q : α → sProp 𝕄} {kt : PUnit → Prog (TpuEff nD τ sig (Elt F) Λ₀ .tc) α} :
    iprop(kP m c ∗ kvE c RK0.set ∗ semVal ((c : Thread nD τ), .dma (ds 24)) 0)
      ⊢ iprop((fl0 m c off inb -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma (grp kM off inb) (.here kd0) (.dma (s2 cc0_scratch9 0)) hsrc hdst hsem) kt) Q) := by
  have e2 : kd0.view.set = RK0.set := set_sl (b := cc0_scratch2) RK0 squeezes_S1x1024x8x128_S1024x8x128.numel_eq
  iintro ⟨Hs, Hd, Hz⟩ Hk
  unfold kP kvE fl0
  iapply (step_fetch c (src := grp kM off inb) (dst := kd0) (hsrc := hsrc) (hdst := hdst) (hsem := hsem) (m ((c : Thread nD τ).loc main_arg2)) (View.dmaCredit_pos _ (by decide))) $$ [Hs Hd Hz]
  rotate_left
  · iexact Hk
  isplitl [Hs]; · iexact Hs
  isplitl [Hd]; · rw [e2]; iexact Hd
  iexact Hz

theorem land0 (c : Dev nD) (g : Fin 4) (off : Fin 4 → ℕ) (inb : ∀ a, off a + S1x1024x8x128.size a ≤ S1x1024x32x128.size a) (hoff : off = ![0, 0, 8 * g.val, 0]) {hsrc : (grp kM off inb).view.WordExact} {hdst : kd0.view.WordExact}
    (l : List (Bool × Fin 15)) (hl : ∀ x ∈ l, 0 < lvk x.2)
    {α : Type} {Q : α → sProp 𝕄} {kt : PUnit → Prog (TpuEff nD τ sig (Elt F) Λ₀ .tc) α} :
    iprop(fl0 m c off inb ∗ levAts L lv ∗ oW c (debt c l))
      ⊢ iprop(((kP m c ∗ kvP m c g RK0.set ∗ semVal ((c : Thread nD τ), .dma (ds 24)) 0 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (s2 cc0_scratch9 0) (grp kM off inb) kd0 hsrc hdst) kt) Q) := by
  have e2 : kd0.view.set = RK0.set := set_sl (b := cc0_scratch2) RK0 squeezes_S1x1024x8x128_S1024x8x128.numel_eq
  have hlv : lvs (.dma (s2 cc0_scratch9 0)) = 0 := by decide
  unfold fl0
  iintro ⟨Hf, Hl, HO⟩ Hk
  iapply (step_land c (sem := s2 cc0_scratch9 0) (src := grp kM off inb) (dst := kd0) (hsrc := hsrc) (hdst := hdst) (m ((c : Thread nD τ).loc main_arg2)) (KV m c g)
    (landed0 m c g off inb hoff) l (by rw [hlv]; exact hl)) $$ [Hf Hl HO]
  · isplitl [Hf]; · iexact Hf
    isplitl [Hl] <;> iassumption
  iintro ⟨Hs, Hd, Hz, HO⟩
  iapply Hk
  unfold kP kvP
  isplitl [Hs]; · iexact Hs
  isplitl [Hd]; · rw [← e2]; iexact Hd
  isplitl [Hz]; · iexact Hz
  iexact HO

omit [FloatOps F] [Named F] in
theorem landed1 (c : Dev nD) (g : Fin 4) (off : Fin 4 → ℕ) (inb : ∀ a, off a + S1x1024x8x128.size a ≤ S1x1024x32x128.size a) (hoff : off = ![0, 0, 8 * g.val, 0]) (fd : (cc0_scratch2 : Ref sig .tc).ty.Contents (Elt F)) :
    ∀ i ∈ kd1.view.set, kd1.view.write (Elt F) fd ((grp vM off inb).view.read (Elt F) (m ((c : Thread nD τ).loc main_arg3))) Finset.univ i = KV m c g i := by
  subst hoff
  intro i hi
  obtain ⟨x, -, rfl⟩ := Finset.mem_map.1 hi
  rw [View.write_emb_of_mem _ _ (Finset.mem_univ x), View.read_apply, cast_cast]
  let y : S1x1024x8x128.Idx := Shape.reshapeEquiv squeezes_S1x1024x8x128_S1024x8x128.numel_eq x
  have hy : (y 0).val = 0 := by have : (y 0).val < 1 := (y 0).isLt; omega
  show m ((c : Thread nD τ).loc main_arg3) ((Rect.unit (s := S1x1024x32x128) ![0, 0, 8 * g.val, 0] S1x1024x8x128.size inb).emb y) = KV m c g (RK1.emb y)
  have h0 : (RK1.emb y 0).val = 1 := by rw [unit_emb]; show 1 + (y 0).val = 1; omega
  unfold KV
  rw [if_neg (by omega)]
  congr 1
  funext a
  apply Fin.ext
  rw [unit_emb]
  fin_cases a
  · show 0 + (y 0).val = 0; omega
  · show 0 + (y 1).val = (RK1.emb y 1).val; rw [unit_emb]; rfl
  · show 8 * g.val + (y 2).val = 8 * g.val + (RK1.emb y 2).val; rw [unit_emb]; show _ = 8 * g.val + (0 + (y 2).val); omega
  · show 0 + (y 3).val = (RK1.emb y 3).val; rw [unit_emb]; rfl

/-- The copy of group `g` into slot 1 under way. -/
def fl1 (c : Dev nD) (off : Fin 4 → ℕ) (inb : ∀ a, off a + S1x1024x8x128.size a ≤ S1x1024x32x128.size a) : sProp 𝕄 := fl c (.dma (s2 cc0_scratch9 1)) (grp vM off inb) kd1 (m ((c : Thread nD τ).loc main_arg3))

theorem fetch1 (c : Dev nD) (off : Fin 4 → ℕ) (inb : ∀ a, off a + S1x1024x8x128.size a ≤ S1x1024x32x128.size a) {hsrc : (grp vM off inb).view.WordExact} {hdst : kd1.view.WordExact}
    {hsem : DmaTarget.Typed (nD := nD) (τ := τ) .hbm (.dma (s2 cc0_scratch9 1)) (.here (p := Proc.tc) kd1)}
    {α : Type} {Q : α → sProp 𝕄} {kt : PUnit → Prog (TpuEff nD τ sig (Elt F) Λ₀ .tc) α} :
    iprop(vP m c ∗ kvE c RK1.set ∗ semVal ((c : Thread nD τ), .dma (ds 25)) 0)
      ⊢ iprop((fl1 m c off inb -∗ wp frame (wpE (defs₀ (F := F)) 𝒱₀ (c : Thread nD τ) none) Set.univ (kt ⟨⟩) Q)
          -∗ wp frame (wpE (defs₀ (F := F)) 𝒱₀ (c : Thread nD τ) none) Set.univ (.op (.enqueueDma (grp vM off inb) (.here kd1) (.dma (s2 cc0_scratch9 1)) hsrc hdst hsem) kt) Q) := by
  have e2 : kd1.view.set = RK1.set := set_sl (b := cc0_scratch2) RK1 squeezes_S1x1024x8x128_S1024x8x128.numel_eq
  iintro ⟨Hs, Hd, Hz⟩ Hk
  unfold vP kvE fl1
  iapply (step_fetch c (src := grp vM off inb) (dst := kd1) (hsrc := hsrc) (hdst := hdst) (hsem := hsem) (m ((c : Thread nD τ).loc main_arg3)) (View.dmaCredit_pos _ (by decide))) $$ [Hs Hd Hz]
  rotate_left
  · iexact Hk
  isplitl [Hs]; · iexact Hs
  isplitl [Hd]; · rw [e2]; iexact Hd
  iexact Hz

theorem land1 (c : Dev nD) (g : Fin 4) (off : Fin 4 → ℕ) (inb : ∀ a, off a + S1x1024x8x128.size a ≤ S1x1024x32x128.size a) (hoff : off = ![0, 0, 8 * g.val, 0]) {hsrc : (grp vM off inb).view.WordExact} {hdst : kd1.view.WordExact}
    (l : List (Bool × Fin 15)) (hl : ∀ x ∈ l, 0 < lvk x.2)
    {α : Type} {Q : α → sProp 𝕄} {kt : PUnit → Prog (TpuEff nD τ sig (Elt F) Λ₀ .tc) α} :
    iprop(fl1 m c off inb ∗ levAts L lv ∗ oW c (debt c l))
      ⊢ iprop(((vP m c ∗ kvP m c g RK1.set ∗ semVal ((c : Thread nD τ), .dma (ds 25)) 0 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (s2 cc0_scratch9 1) (grp vM off inb) kd1 hsrc hdst) kt) Q) := by
  have e2 : kd1.view.set = RK1.set := set_sl (b := cc0_scratch2) RK1 squeezes_S1x1024x8x128_S1024x8x128.numel_eq
  have hlv : lvs (.dma (s2 cc0_scratch9 1)) = 0 := by decide
  unfold fl1
  iintro ⟨Hf, Hl, HO⟩ Hk
  iapply (step_land c (sem := s2 cc0_scratch9 1) (src := grp vM off inb) (dst := kd1) (hsrc := hsrc) (hdst := hdst) (m ((c : Thread nD τ).loc main_arg3)) (KV m c g)
    (landed1 m c g off inb hoff) l (by rw [hlv]; exact hl)) $$ [Hf Hl HO]
  · isplitl [Hf]; · iexact Hf
    isplitl [Hl] <;> iassumption
  iintro ⟨Hs, Hd, Hz, HO⟩
  iapply Hk
  unfold vP kvP
  isplitl [Hs]; · iexact Hs
  isplitl [Hd]; · rw [← e2]; iexact Hd
  isplitl [Hz]; · iexact Hz
  iexact HO

/-! ## Reads -/

theorem load_q (c : Dev nD) (S : Finset S4x1024x1024.Idx) (q : PosShare TreeShare) (r : Rect S4x1024x1024) (hS : r.set ⊆ S) {hl : (qM).view.LoadsAt r.toLoadRect}
    {α : Type} {Q : α → sProp 𝕄} {kt : (r.toLoadRect.shape.Idx → Elt F .bf16) → Prog (TpuEff nD τ sig (Elt F) Λ₀ .tc) α} :
    qP m ρ c S q ⊢ iprop((qP m ρ c S q -∗ wp frame (wpE (defs₀ (F := F)) 𝒱₀ (c : Thread nD τ) none) Set.univ (kt ((qM).view.readAt (Elt F) r.toLoadRect (WQ m ρ c))) Q)
      -∗ wp frame (wpE (defs₀ (F := F)) 𝒱₀ (c : Thread nD τ) none) Set.univ (.op (.load qM r.toLoadRect hl) kt) Q) := by
  unfold qP
  exact wp_load 𝒱₀ (c : Thread nD τ) none Set.univ (m := qM) (by
    intro i hi
    obtain ⟨x, hx, rfl⟩ := Finset.mem_map.1 hi
    exact hS hx)

theorem load_o (c : Dev nD) (S : Finset S4x1024x1024.Idx) (q : PosShare TreeShare) (r : Rect S4x1024x1024) (hS : r.set ⊆ S) {hl : (oM).view.LoadsAt r.toLoadRect}
    {α : Type} {Q : α → sProp 𝕄} {kt : (r.toLoadRect.shape.Idx → Elt F .bf16) → Prog (TpuEff nD τ sig (Elt F) Λ₀ .tc) α} :
    oP m ρ c S q ⊢ iprop((oP m ρ c S q -∗ wp frame (wpE (defs₀ (F := F)) 𝒱₀ (c : Thread nD τ) none) Set.univ (kt ((oM).view.readAt (Elt F) r.toLoadRect (WO m ρ c))) Q)
      -∗ wp frame (wpE (defs₀ (F := F)) 𝒱₀ (c : Thread nD τ) none) Set.univ (.op (.load oM r.toLoadRect hl) kt) Q) := by
  unfold oP
  exact wp_load 𝒱₀ (c : Thread nD τ) none Set.univ (m := oM) (by
    intro i hi
    obtain ⟨x, hx, rfl⟩ := Finset.mem_map.1 hi
    exact hS hx)

theorem load_kv (c : Dev nD) (S : Finset S2x1024x8x128.Idx) (g : Fin 4) (r : Rect S2x1024x8x128) (hS : r.set ⊆ S) {hl : (kvM).view.LoadsAt r.toLoadRect}
    {α : Type} {Q : α → sProp 𝕄} {kt : (r.toLoadRect.shape.Idx → Elt F .f32) → Prog (TpuEff nD τ sig (Elt F) Λ₀ .tc) α} :
    kvP m c g S ⊢ iprop((kvP m c g S -∗ wp frame (wpE (defs₀ (F := F)) 𝒱₀ (c : Thread nD τ) none) Set.univ (kt ((kvM).view.readAt (Elt F) r.toLoadRect (KV m c g))) Q)
      -∗ wp frame (wpE (defs₀ (F := F)) 𝒱₀ (c : Thread nD τ) none) Set.univ (.op (.load kvM r.toLoadRect hl) kt) Q) := by
  unfold kvP
  exact wp_load 𝒱₀ (c : Thread nD τ) none Set.univ (m := kvM) (by
    intro i hi
    obtain ⟨x, hx, rfl⟩ := Finset.mem_map.1 hi
    exact hS hx)

abbrev rF : Rect S1024x1024 := Rect.unit (s := S1024x1024) ![0, 0] S1024x1024.size inb_S1024x1024_S1024x1024_0_0
omit [FloatOps F] [Named F] in
theorem hz : (![0, 0] : Fin 2 → Nat) = fun _ => 0 := funext fun a => by fin_cases a <;> rfl

/-- A staging block of `c` held whole at contents `X`. -/
def bP (c : Dev nD) (b : Ref sig .tc) (X : b.ty.Contents (Elt F)) : sProp 𝕄 := (((c : Thread nD τ).loc b) ↦{fullShare} X)

theorem load_x (c : Dev nD) (X : (cc0_stg0_0 : Ref sig .tc).ty.Contents (Elt F)) {hl : (xM).view.LoadsAt rF.toLoadRect}
    {α : Type} {Q : α → sProp 𝕄} {kt : (rF.toLoadRect.shape.Idx → Elt F .bf16) → Prog (TpuEff nD τ sig (Elt F) Λ₀ .tc) α} :
    bP c cc0_stg0_0 X ⊢ iprop((bP c cc0_stg0_0 X -∗ wp frame (wpE (defs₀ (F := F)) 𝒱₀ (c : Thread nD τ) none) Set.univ (kt X) Q)
      -∗ wp frame (wpE (defs₀ (F := F)) 𝒱₀ (c : Thread nD τ) none) Set.univ (.op (.load xM rF.toLoadRect hl) kt) Q) := by
  have e : (xM).view.readAt (Elt F) rF.toLoadRect X = X := Memref.readAt_unit_zero (Elt F) cc0_stg0_0 hz _ X
  unfold bP
  iintro H Hk
  iapply (wp_load 𝒱₀ (c : Thread nD τ) none Set.univ (m := xM) (r := rF.toLoadRect) (f := X) (Finset.subset_univ _)) $$ H
  iintro H
  rw [e]
  iapply Hk
  iexact H

theorem load_wq (c : Dev nD) (X : (cc0_stg1_0 : Ref sig .tc).ty.Contents (Elt F)) {hl : (wqM).view.LoadsAt rF.toLoadRect}
    {α : Type} {Q : α → sProp 𝕄} {kt : (rF.toLoadRect.shape.Idx → Elt F .bf16) → Prog (TpuEff nD τ sig (Elt F) Λ₀ .tc) α} :
    bP c cc0_stg1_0 X ⊢ iprop((bP c cc0_stg1_0 X -∗ wp frame (wpE (defs₀ (F := F)) 𝒱₀ (c : Thread nD τ) none) Set.univ (kt X) Q)
      -∗ wp frame (wpE (defs₀ (F := F)) 𝒱₀ (c : Thread nD τ) none) Set.univ (.op (.load wqM rF.toLoadRect hl) kt) Q) := by
  have e : (wqM).view.readAt (Elt F) rF.toLoadRect X = X := Memref.readAt_unit_zero (Elt F) cc0_stg1_0 hz _ X
  unfold bP
  iintro H Hk
  iapply (wp_load 𝒱₀ (c : Thread nD τ) none Set.univ (m := wqM) (r := rF.toLoadRect) (f := X) (Finset.subset_univ _)) $$ H
  iintro H
  rw [e]
  iapply Hk
  iexact H

theorem load_wo (c : Dev nD) (X : (cc0_stg2_0 : Ref sig .tc).ty.Contents (Elt F)) {hl : (woM).view.LoadsAt rF.toLoadRect}
    {α : Type} {Q : α → sProp 𝕄} {kt : (rF.toLoadRect.shape.Idx → Elt F .bf16) → Prog (TpuEff nD τ sig (Elt F) Λ₀ .tc) α} :
    bP c cc0_stg2_0 X ⊢ iprop((bP c cc0_stg2_0 X -∗ wp frame (wpE (defs₀ (F := F)) 𝒱₀ (c : Thread nD τ) none) Set.univ (kt X) Q)
      -∗ wp frame (wpE (defs₀ (F := F)) 𝒱₀ (c : Thread nD τ) none) Set.univ (.op (.load woM rF.toLoadRect hl) kt) Q) := by
  have e : (woM).view.readAt (Elt F) rF.toLoadRect X = X := Memref.readAt_unit_zero (Elt F) cc0_stg2_0 hz _ X
  unfold bP
  iintro H Hk
  iapply (wp_load 𝒱₀ (c : Thread nD τ) none Set.univ (m := woM) (r := rF.toLoadRect) (f := X) (Finset.subset_univ _)) $$ H
  iintro H
  rw [e]
  iapply Hk
  iexact H

theorem load_out (c : Dev nD) (X : (cc0_stg3_0 : Ref sig .tc).ty.Contents (Elt F)) {hl : (outM).view.LoadsAt rF.toLoadRect}
    {α : Type} {Q : α → sProp 𝕄} {kt : (rF.toLoadRect.shape.Idx → Elt F .f32) → Prog (TpuEff nD τ sig (Elt F) Λ₀ .tc) α} :
    bP c cc0_stg3_0 X ⊢ iprop((bP c cc0_stg3_0 X -∗ wp frame (wpE (defs₀ (F := F)) 𝒱₀ (c : Thread nD τ) none) Set.univ (kt X) Q)
      -∗ wp frame (wpE (defs₀ (F := F)) 𝒱₀ (c : Thread nD τ) none) Set.univ (.op (.load outM rF.toLoadRect hl) kt) Q) := by
  have e : (outM).view.readAt (Elt F) rF.toLoadRect X = X := Memref.readAt_unit_zero (Elt F) cc0_stg3_0 hz _ X
  unfold bP
  iintro H Hk
  iapply (wp_load 𝒱₀ (c : Thread nD τ) none Set.univ (m := outM) (r := rF.toLoadRect) (f := X) (Finset.subset_univ _)) $$ H
  iintro H
  rw [e]
  iapply Hk
  iexact H

theorem store_out (c : Dev nD) (X w : (cc0_stg3_0 : Ref sig .tc).ty.Contents (Elt F)) {hx : (outM.access rF).Stores Finset.univ}
    {hm : (Finset.univ : Finset rF.shape.Idx) = Finset.univ ∨ ∀ a, rF.stride a = 1}
    {α : Type} {Q : α → sProp 𝕄} {kt : PUnit → Prog (TpuEff nD τ sig (Elt F) Λ₀ .tc) α} :
    bP c cc0_stg3_0 X ⊢ iprop((bP c cc0_stg3_0 w -∗ wp frame (wpE (defs₀ (F := F)) 𝒱₀ (c : Thread nD τ) none) Set.univ (kt ⟨⟩) Q)
      -∗ wp frame (wpE (defs₀ (F := F)) 𝒱₀ (c : Thread nD τ) none) Set.univ (.op (.store outM rF w Finset.univ hx hm) kt) Q) := by
  have e : ((outM.access rF : View sig .tc _ _ _).write (Elt F) X w Finset.univ) = w := Memref.write_access_unit_zero_univ (Elt F) cc0_stg3_0 hz _ X w
  unfold bP
  iintro H Hk
  iapply (wp_store 𝒱₀ (c : Thread nD τ) none Set.univ (m := outM) (r := rF) (w := w) (Mk := Finset.univ) (f := X) (Finset.subset_univ _)) $$ H
  iintro H
  rw [e]
  iapply Hk
  iexact H

/-- The first slot filled with the device's own block. -/
theorem fill_q (c : Dev nD) (f : (cc0_scratch0 : Ref sig .tc).ty.Contents (Elt F)) :
    ∀ i ∈ R0.set, ((qM).access R0 : View sig .tc _ _ _).write (Elt F) f (k0_pay1 (wqB m ρ c)) Finset.univ i = WQ m ρ c i := by
  intro i hi
  have e : ((qM).access R0 : View sig .tc _ _ _).set = R0.set := View.set_slice_whole cc0_scratch0 R0
  rw [← e] at hi
  obtain ⟨x, -, rfl⟩ := Finset.mem_map.1 hi
  rw [View.write_emb_of_mem _ _ (Finset.mem_univ x)]
  show k0_pay1 (wqB m ρ c) x = WQ m ρ c (R0.emb x)
  have h0 : R0.emb x 0 = (0 : Fin 4) := by
    apply Fin.ext; rw [unit_emb]; show 0 + (x 0).val = 0
    have : (x 0).val < 1 := (x 0).isLt
    omega
  unfold WQ k0_pay1
  rw [h0, bwd_zero]
  pointwise
  congr 1
  funext a
  apply Fin.ext
  fin_cases a
  · show (x 1).val = (R0.emb x 1).val; rw [unit_emb]; exact (Nat.zero_add _).symm
  · show (x 2).val = (R0.emb x 2).val; rw [unit_emb]; exact (Nat.zero_add _).symm

theorem store_q (c : Dev nD) {hx : ((qM).access R0).Stores Finset.univ}
    {hm : (Finset.univ : Finset R0.shape.Idx) = Finset.univ ∨ ∀ a, R0.stride a = 1}
    {α : Type} {Q : α → sProp 𝕄} {kt : PUnit → Prog (TpuEff nD τ sig (Elt F) Λ₀ .tc) α} :
    qE c R0.set ⊢ iprop((qP m ρ c R0.set fullShare -∗ wp frame (wpE (defs₀ (F := F)) 𝒱₀ (c : Thread nD τ) none) Set.univ (kt ⟨⟩) Q)
      -∗ wp frame (wpE (defs₀ (F := F)) 𝒱₀ (c : Thread nD τ) none) Set.univ (.op (.store qM R0 (k0_pay1 (wqB m ρ c)) Finset.univ hx hm) kt) Q) := by
  have e : ((qM).access R0 : View sig .tc _ _ _).setOn Finset.univ ⊆ R0.set := by
    rw [View.setOn_univ]; exact (View.set_slice_whole cc0_scratch0 R0).le
  unfold qE qP
  iintro ⟨%f, H⟩ Hk
  iapply (wp_store (defs := defs₀ (F := F)) 𝒱₀ (c : Thread nD τ) none Set.univ (m := qM) (r := R0) (w := k0_pay1 (wqB m ρ c)) (Mk := Finset.univ) (hx := hx) (hm := hm) (k := kt) (Q := Q) (f := f) e) $$ H
  iintro H
  iapply Hk
  iapply (Entails.of_eq (pointsTo_congr (fill_q m ρ c f))); iexact H

/-- A read of an unfilled slot. -/
theorem peek_q (c : Dev nD) (S : Finset S4x1024x1024.Idx) (r : Rect S4x1024x1024) (hS : r.set ⊆ S) {hl : (qM).view.LoadsAt r.toLoadRect}
    {α : Type} {Q : α → sProp 𝕄} {kt : (r.toLoadRect.shape.Idx → Elt F .bf16) → Prog (TpuEff nD τ sig (Elt F) Λ₀ .tc) α} :
    qE c S ⊢ iprop((∀ w, qE c S -∗ wp frame (wpE (defs₀ (F := F)) 𝒱₀ (c : Thread nD τ) none) Set.univ (kt w) Q)
      -∗ wp frame (wpE (defs₀ (F := F)) 𝒱₀ (c : Thread nD τ) none) Set.univ (.op (.load qM r.toLoadRect hl) kt) Q) := by
  unfold qE
  iintro ⟨%f, H⟩ Hk
  iapply (wp_load 𝒱₀ (c : Thread nD τ) none Set.univ (m := qM) (by
    intro i hi
    obtain ⟨x, hx, rfl⟩ := Finset.mem_map.1 hi
    exact hS hx)) $$ H
  iintro H
  iapply Hk
  iexists f; iexact H

/-- The first slot filled with the device's own block. -/
theorem fill_o (c : Dev nD) (f : (cc0_scratch1 : Ref sig .tc).ty.Contents (Elt F)) :
    ∀ i ∈ R0.set, ((oM).access R0 : View sig .tc _ _ _).write (Elt F) f (k0_pay2 (woB m ρ c)) Finset.univ i = WO m ρ c i := by
  intro i hi
  have e : ((oM).access R0 : View sig .tc _ _ _).set = R0.set := View.set_slice_whole cc0_scratch1 R0
  rw [← e] at hi
  obtain ⟨x, -, rfl⟩ := Finset.mem_map.1 hi
  rw [View.write_emb_of_mem _ _ (Finset.mem_univ x)]
  show k0_pay2 (woB m ρ c) x = WO m ρ c (R0.emb x)
  have h0 : R0.emb x 0 = (0 : Fin 4) := by
    apply Fin.ext; rw [unit_emb]; show 0 + (x 0).val = 0
    have : (x 0).val < 1 := (x 0).isLt
    omega
  unfold WO k0_pay2
  rw [h0, fwd_zero]
  pointwise
  congr 1
  funext a
  apply Fin.ext
  fin_cases a
  · show (x 1).val = (R0.emb x 1).val; rw [unit_emb]; exact (Nat.zero_add _).symm
  · show (x 2).val = (R0.emb x 2).val; rw [unit_emb]; exact (Nat.zero_add _).symm

theorem store_o (c : Dev nD) {hx : ((oM).access R0).Stores Finset.univ}
    {hm : (Finset.univ : Finset R0.shape.Idx) = Finset.univ ∨ ∀ a, R0.stride a = 1}
    {α : Type} {Q : α → sProp 𝕄} {kt : PUnit → Prog (TpuEff nD τ sig (Elt F) Λ₀ .tc) α} :
    oE c R0.set ⊢ iprop((oP m ρ c R0.set fullShare -∗ wp frame (wpE (defs₀ (F := F)) 𝒱₀ (c : Thread nD τ) none) Set.univ (kt ⟨⟩) Q)
      -∗ wp frame (wpE (defs₀ (F := F)) 𝒱₀ (c : Thread nD τ) none) Set.univ (.op (.store oM R0 (k0_pay2 (woB m ρ c)) Finset.univ hx hm) kt) Q) := by
  have e : ((oM).access R0 : View sig .tc _ _ _).setOn Finset.univ ⊆ R0.set := by
    rw [View.setOn_univ]; exact (View.set_slice_whole cc0_scratch1 R0).le
  unfold oE oP
  iintro ⟨%f, H⟩ Hk
  iapply (wp_store (defs := defs₀ (F := F)) 𝒱₀ (c : Thread nD τ) none Set.univ (m := oM) (r := R0) (w := k0_pay2 (woB m ρ c)) (Mk := Finset.univ) (hx := hx) (hm := hm) (k := kt) (Q := Q) (f := f) e) $$ H
  iintro H
  iapply Hk
  iapply (Entails.of_eq (pointsTo_congr (fill_o m ρ c f))); iexact H

/-- A read of an unfilled slot. -/
theorem peek_o (c : Dev nD) (S : Finset S4x1024x1024.Idx) (r : Rect S4x1024x1024) (hS : r.set ⊆ S) {hl : (oM).view.LoadsAt r.toLoadRect}
    {α : Type} {Q : α → sProp 𝕄} {kt : (r.toLoadRect.shape.Idx → Elt F .bf16) → Prog (TpuEff nD τ sig (Elt F) Λ₀ .tc) α} :
    oE c S ⊢ iprop((∀ w, oE c S -∗ wp frame (wpE (defs₀ (F := F)) 𝒱₀ (c : Thread nD τ) none) Set.univ (kt w) Q)
      -∗ wp frame (wpE (defs₀ (F := F)) 𝒱₀ (c : Thread nD τ) none) Set.univ (.op (.load oM r.toLoadRect hl) kt) Q) := by
  unfold oE
  iintro ⟨%f, H⟩ Hk
  iapply (wp_load 𝒱₀ (c : Thread nD τ) none Set.univ (m := oM) (by
    intro i hi
    obtain ⟨x, hx, rfl⟩ := Finset.mem_map.1 hi
    exact hS hx)) $$ H
  iintro H
  iapply Hk
  iexists f; iexact H

end Cert.Ring

end
-- ==== Proof.PartsA.lean ====
/-
The parts of the kernel's body that touch memory, first to eighth: the barrier, the own blocks into the first slots, the first
hop of both weights, and the first group of heads.
-/
module

public import proofs.«01_k».proof.Proof.Copies

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-- What a core brings to the barrier. -/
def barG (c : Dev nD) : sProp 𝕄 :=
  iprop(dutyTok ER (kcell (prv c, 0)) 0 true ∗ dutyTok ER (kcell (nxt c, 0)) 0 false ∗ atPos ER (kcell (c, 0)) 0 ∅ 0 ∗ cred (tallyAt (kcell (c, 0)) () 2))

/-- The empty landing slots of `c`. -/
def qSl (c : Dev nD) : sProp 𝕄 := iprop(qE c R1.set ∗ qE c R2.set ∗ qE c R3l.set ∗ qE c R3r.set)
def oSl (c : Dev nD) : sProp 𝕄 := iprop(oE c R1.set ∗ oE c R2.set ∗ oE c R3.set)

theorem bar_q (c : Dev nD) : pay m ρ c 0 true = qSl (nxt c) := by
  unfold pay qSl; exact if_pos rfl
theorem bar_o (c : Dev nD) : pay m ρ c 0 false = oSl (prv c) := by
  unfold pay oSl; exact if_neg (by decide)

/-- A wait on a transfer's semaphore, with what it hands over named. -/
theorem await (c : Dev nD) (k : Fin 15) (hk : k ≠ 0) {P : sProp 𝕄} (hP : pay m ρ c k false = P) {sem : DmaSem sig} (e : csem k = .dma sem) {sp sp' : Space} {s s' : Shape} {el el' : EltTy}
    {src : Memref sig .tc sp' s' el'} {dst : Memref sig .tc sp s el} {hsrc : src.view.WordExact} {hdst : dst.view.WordExact}
    (hN : dst.view.dmaCredit = amt k) (l : List (Bool × Fin 15)) (hl : ∀ x ∈ l, lvk k < lvk x.2)
    {α : Type} {Q : α → sProp 𝕄} {kt : PUnit → Prog (TpuEff nD τ sig (Elt F) Λ₀ .tc) α} :
    iprop(records m ρ K ∗ levAts L lv ∗ wt c k ∗ oW c (debt c l))
      ⊢ iprop(((P ∗ semVal (kcell (c, k)) 0 ∗ oW c (debt c l)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sem src dst hsrc hdst) kt) Q) := by
  subst hP; exact step_wait m ρ K c k hk e hN l hl

set_option maxHeartbeats 1000000 in
theorem part1 (c : Dev nD)   {Q : _ → sProp 𝕄} :
    iprop(records m ρ K ∗ levAts L lv ∗ barG c ∗ oW c (debt c dueL) ∗ qSl c ∗ oSl c ∗ qE c R0.set ∗ oE c R0.set ∗ bP c cc0_stg1_0 (wqB m ρ c) ∗ bP c cc0_stg2_0 (woB m ρ c) ∗ ((oW c (debt c (dueL.drop 2)) ∗ semVal (kcell (c, 0)) 0 ∗ qSl (nxt c) ∗ oSl (prv c) ∗ qP m ρ c R0.set fullShare ∗ oP m ρ c R0.set fullShare ∗ bP c cc0_stg1_0 (wqB m ρ c) ∗ bP c cc0_stg2_0 (woB m ρ c)) -∗ Q ⟨c, Scalar.remsi (Scalar.divsi (Dev.word c) 1#32) 4#32, Scalar.remsi (Scalar.subi (Scalar.addi (Scalar.remsi (Scalar.divsi (Dev.word c) 1#32) 4#32) 4#32) 1#32) 4#32, Scalar.remsi (Scalar.addi (Scalar.remsi (Scalar.divsi (Dev.word c) 1#32) 4#32) 1#32) 4#32, k0_pay3 c, iota .tc S1x1024 32 [1] iota_S1x1024_d1_w32⟩))
      ⊢ wp frame (wpE (defs₀ (F := F)) 𝒱₀ (c : Thread nD τ) none) Set.univ (k0_part1 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 ) Q := by
  rw [k0_part1_eq_skeleton]; unfold k0_part1_skel
  simp only [semSignalWord, semWaitWord, Prog.lift, Prog.bind_op, Prog.bind_ret, Prog.pure_eq_ret, Prog.bind_assoc, wp_deviceId]
  unfold barG oW
  iintro ⟨#HR, #Hlev, ⟨HtP, HtN, Hat, Hc⟩, ⟨%W, HO⟩, Hq, Ho, Hq0, Ho0, Hwq, Hwo, Hk⟩
  simp only [dev1_eq c, dev2_eq c]
  ihave #HiP := (inv_at m ρ K (prv c, 0)) $$ HR
  ihave #HiN := (inv_at m ρ K (nxt c, 0)) $$ HR
  ihave #Hi := (inv_at m ρ K (c, 0)) $$ HR
  ihave #HrP := (reached_at m ρ K (prv c, 0)) $$ HR
  ihave #HrN := (reached_at m ρ K (nxt c, 0)) $$ HR
  iapply (Rounds.wp_signal 𝒱₀ ER (sched m ρ) (c : Thread nD τ) none (dst := (prv c : Thread nD τ)) (κ := K (prv c, 0))
      (d := true) (by rw [show ((prv c : Thread nD τ), SemLoc.reg barS) = kcell (prv c, 0) from rfl, duties_cell]; exact Finset.mem_univ _)
      ((amount_cell m ρ (prv c) 0 true).trans (by decide)) () (debt c (dueL.drop 1)) rfl) $$ [HO HtP Hq]
  · isplitr; · iexact HiP
    isplitl [HO]; · iexact HO
    isplitl [HtP]; · iexact HtP
    isplitl [Hq]
    · iapply (Entails.of_eq (show (sched m ρ).payload ((prv c : Thread nD τ), SemLoc.reg barS) 0 true = _ from (payload_cell m ρ (prv c) 0 true).trans ((bar_q m ρ (prv c)).trans (by rw [nxt_prv]))).symm); iexact Hq
    iexact HrP
  iintro HO
  iapply (Rounds.wp_signal 𝒱₀ ER (sched m ρ) (c : Thread nD τ) none (dst := (nxt c : Thread nD τ)) (κ := K (nxt c, 0))
      (d := false) (by rw [show ((nxt c : Thread nD τ), SemLoc.reg barS) = kcell (nxt c, 0) from rfl, duties_cell]; exact Finset.mem_univ _)
      ((amount_cell m ρ (nxt c) 0 false).trans (by decide)) () (debt c (dueL.drop 2)) rfl) $$ [HO HtN Ho]
  · isplitr; · iexact HiN
    isplitl [HO]; · iexact HO
    isplitl [HtN]; · iexact HtN
    isplitl [Ho]
    · iapply (Entails.of_eq (show (sched m ρ).payload ((nxt c : Thread nD τ), SemLoc.reg barS) 0 false = _ from (payload_cell m ρ (nxt c) 0 false).trans ((bar_o m ρ (nxt c)).trans (by rw [prv_nxt]))).symm); iexact Ho
    iexact HrN
  iintro HO
  iapply (Rounds.wp_wait_rest_token 𝒱₀ ER (sched m ρ) (c : Thread nD τ) none (κ := K (c, 0))
      (wpE_semWait_eq 𝒱₀ (c : Thread nD τ) none Set.univ) (Set.mem_univ _) () (O := debt c (dueL.drop 2)) (W := W) (R := 0) (m := 0) (T := ∅)
      (by rw [show ((c : Thread nD τ), SemLoc.reg barS) = kcell (c, 0) from rfl, expect_bar]; decide)) $$ [Hc HO Hat]
  · isplitr; · iexact Hi
    isplitl [Hc]; · iexact Hc
    isplitl [HO]; · iexact HO
    isplitr; · iapply (mayWait_debt c (csem 0) (dueL.drop 2) (by decide)); iexact Hlev
    iexact Hat
  iintro ⟨HO, Hat, -, Hp⟩
  ihave Hp := (Entails.of_eq (show bigSep ((sched (F := F) m ρ).duties ((c : Thread nD τ), SemLoc.reg barS) 0 \ ∅) (fun d => (sched (F := F) m ρ).payload ((c : Thread nD τ), SemLoc.reg barS) 0 d) = _ from rest_bar m ρ c)) $$ Hp
  imod (Rounds.cell_close ER (sched m ρ) (Set.mem_univ (K (c, 0))) (fun h => h) (R := 0 + 1) (duties_later m ρ (kcell (c, 0)))) $$ [Hat] with Hz
  · isplitr; · iexact Hi
    iexact Hat
  icases Hp with ⟨Hpo, Hpq⟩
  iapply (load_wq c _) $$ Hwq
  iintro Hwq
  iapply (peek_q c _ _ subset_rfl) $$ Hq0
  iintro %w0 Hq0
  iapply (store_q m ρ c) $$ Hq0
  iintro Hq0
  iapply (load_wo c _) $$ Hwo
  iintro Hwo
  iapply (peek_o c _ _ subset_rfl) $$ Ho0
  iintro %w1 Ho0
  iapply (store_o m ρ c) $$ Ho0
  iintro Ho0
  rw [wp_ret]; imodintro
  iapply Hk
  isplitl [HO]; · iexists _; iexact HO
  isplitl [Hz]; · iexact Hz
  isplitl [Hpq]; · iapply (Entails.of_eq (bar_q m ρ c)); iexact Hpq
  isplitl [Hpo]; · iapply (Entails.of_eq (bar_o m ρ c)); iexact Hpo
  isplitl [Hq0]; · iexact Hq0
  isplitl [Ho0]; · iexact Ho0
  isplitl [Hwq]; · iexact Hwq
  iexact Hwo

theorem part3 (c : Dev nD) (v5 : BitVec 32) (v7 : BitVec 32) (v51 : IVec S1024x1 32) (v53 : IVec S1x1024 32) (v72 : IVec S1x1024 1) (v73 : IVec S1x1024 32) (X : (cc0_stg0_0 : Ref sig .tc).ty.Contents (Elt F)) (l : List (Bool × Fin 15)) {Q : _ → sProp 𝕄} :
    iprop(records m ρ K ∗ bP c cc0_stg0_0 X ∗ qP m ρ c R0.set fullShare.right ∗ qE (nxt c) R1.set ∗ sg c 0 ∗ oW c (debt c ((true, 8) :: l)) ∗ ((bP c cc0_stg0_0 X ∗ wt c 1 ∗ oW c (debt c l)) -∗ Q ⟨k0_pay8 v51 v53 v72 v73, k0_pay9 X⟩))
      ⊢ wp frame (wpE (defs₀ (F := F)) 𝒱₀ (c : Thread nD τ) none) Set.univ (k0_part3 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v5 v7 v51 v53 v72 v73) Q := by
  rw [k0_part3_eq_skeleton]; unfold k0_part3_skel
  simp only [semSignalWord, semWaitWord, Prog.lift, Prog.bind_op, Prog.bind_ret, Prog.pure_eq_ret, Prog.bind_assoc, wp_deviceId]
  iintro ⟨#HR, Hx, Hq, HqN, Hg, HO, Hk⟩
  iapply (load_x c _) $$ Hx
  iintro Hx
  iapply (send0 m ρ K c _ (dev3_eq c) l) $$ [Hq HqN Hg HO]
  · isplitr; · iexact HR
    isplitl [Hq]; · iexact Hq
    isplitl [HqN]; · iexact HqN
    isplitl [Hg]; · iexact Hg
    iexact HO
  iintro ⟨Hw, HO⟩
  rw [wp_ret]; imodintro
  iapply Hk
  isplitl [Hx]; · iexact Hx
  isplitl [Hw]; · iexact Hw
  iexact HO

theorem part4 (c : Dev nD) (v2 : BitVec 32) (v94 : FVec F S1024x1024 .bf16) (q : PosShare TreeShare) (l : List (Bool × Fin 15)) {Q : _ → sProp 𝕄} :
    iprop(records m ρ K ∗ oP m ρ c R0.set fullShare.right ∗ oE (prv c) R1.set ∗ sg c 4 ∗ oW c (debt c ((false, 12) :: l)) ∗ kP m c ∗ vP m c ∗ kvE c RK0.set ∗ kvE c RK1.set ∗ semVal ((c : Thread nD τ), .dma (ds 24)) 0 ∗ semVal ((c : Thread nD τ), .dma (ds 25)) 0 ∗ qP m ρ c R0.set q ∗ ((wt c 5 ∗ oW c (debt c l) ∗ fl0 m c (k0_off1 c) (k0_off1_inb c) ∗ fl1 m c (k0_off1 c) (k0_off1_inb c) ∗ qP m ρ c R0.set q) -∗ Q (k0_pay10 v94 (qM.view.readAt (Elt F) R0.toLoadRect (WQ m ρ c)))))
      ⊢ wp frame (wpE (defs₀ (F := F)) 𝒱₀ (c : Thread nD τ) none) Set.univ (k0_part4 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v2 v94) Q := by
  rw [k0_part4_eq_skeleton]; unfold k0_part4_skel
  simp only [semSignalWord, semWaitWord, Prog.lift, Prog.bind_op, Prog.bind_ret, Prog.pure_eq_ret, Prog.bind_assoc, wp_deviceId]
  iintro ⟨#HR, Ho, HoP, Hg, HO, HkP, HvP, Hd0, Hd1, Hz0, Hz1, Hq, Hk⟩
  iapply (send4 m ρ K c _ (dev4_eq c) l) $$ [Ho HoP Hg HO]
  · isplitr; · iexact HR
    isplitl [Ho]; · iexact Ho
    isplitl [HoP]; · iexact HoP
    isplitl [Hg]; · iexact Hg
    iexact HO
  iintro ⟨Hw, HO⟩
  iapply (fetch0 m c (k0_off1 c) (k0_off1_inb c)) $$ [HkP Hd0 Hz0]
  · isplitl [HkP]; · iexact HkP
    isplitl [Hd0]; · iexact Hd0
    iexact Hz0
  iintro Hf0
  iapply (fetch1 m c (k0_off1 c) (k0_off1_inb c)) $$ [HvP Hd1 Hz1]
  · isplitl [HvP]; · iexact HvP
    isplitl [Hd1]; · iexact Hd1
    iexact Hz1
  iintro Hf1
  iapply (load_q m ρ c _ _ R0 subset_rfl) $$ Hq
  iintro Hq
  rw [wp_ret]; imodintro
  iapply Hk
  isplitl [Hw]; · iexact Hw
  isplitl [HO]; · iexact HO
  isplitl [Hf0]; · iexact Hf0
  isplitl [Hf1]; · iexact Hf1
  iexact Hq

theorem part5 (c : Dev nD) (v90 : IVec S1024x1024 1) (v132 : FVec F S1024x1024 .bf16) (l : List (Bool × Fin 15)) (hl : ∀ x ∈ l, 0 < lvk x.2) {Q : _ → sProp 𝕄} :
    iprop(levAts L lv ∗ fl0 m c (k0_off1 c) (k0_off1_inb c) ∗ fl1 m c (k0_off1 c) (k0_off1_inb c) ∗ oW c (debt c l) ∗ ((oW c (debt c l) ∗ kP m c ∗ vP m c ∗ kvP m c c RK0.set ∗ kvP m c c RK1.set ∗ semVal ((c : Thread nD τ), .dma (ds 24)) 0 ∗ semVal ((c : Thread nD τ), .dma (ds 25)) 0) -∗ Q ⟨k0_pay11 (kvM.view.readAt (Elt F) RK0.toLoadRect (KV m c c)), k0_pay12 (kvM.view.readAt (Elt F) RK1.toLoadRect (KV m c c)), k0_pay13 v90 v132 (kvM.view.readAt (Elt F) RK0.toLoadRect (KV m c c)) (kvM.view.readAt (Elt F) RK1.toLoadRect (KV m c c)), k0_pay14 v132, k0_pay15 (kvM.view.readAt (Elt F) RK0.toLoadRect (KV m c c)), constant S1024x1024 .f32 0x00000000#32⟩))
      ⊢ wp frame (wpE (defs₀ (F := F)) 𝒱₀ (c : Thread nD τ) none) Set.univ (k0_part5 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v90 v132) Q := by
  rw [k0_part5_eq_skeleton]; unfold k0_part5_skel
  simp only [semSignalWord, semWaitWord, Prog.lift, Prog.bind_op, Prog.bind_ret, Prog.pure_eq_ret, Prog.bind_assoc, wp_deviceId]
  iintro ⟨#Hlev, Hf0, Hf1, HO, Hk⟩
  iapply (land0 m c c (k0_off1 c) (k0_off1_inb c) (k0_off1_eq c) l hl) $$ [Hf0 HO]
  · isplitl [Hf0]; · iexact Hf0
    isplitr; · iexact Hlev
    iexact HO
  iintro ⟨HkP, Hd0, Hz0, HO⟩
  iapply (land1 m c c (k0_off1 c) (k0_off1_inb c) (k0_off1_eq c) l hl) $$ [Hf1 HO]
  · isplitl [Hf1]; · iexact Hf1
    isplitr; · iexact Hlev
    iexact HO
  iintro ⟨HvP, Hd1, Hz1, HO⟩
  iapply (load_kv m c _ c RK0 subset_rfl) $$ Hd0
  iintro Hd0
  iapply (load_kv m c _ c RK1 subset_rfl) $$ Hd1
  iintro Hd1
  rw [wp_ret]; imodintro
  iapply Hk
  isplitl [HO]; · iexact HO
  isplitl [HkP]; · iexact HkP
  isplitl [HvP]; · iexact HvP
  isplitl [Hd0]; · iexact Hd0
  isplitl [Hd1]; · iexact Hd1
  isplitl [Hz0]; · iexact Hz0
  iexact Hz1

theorem part8 (c : Dev nD) (v5 : BitVec 32) (v7 : BitVec 32) (v90 : IVec S1024x1024 1) (v132 : FVec F S1024x1024 .bf16) (v147 : FVec F S1024x8x128 .bf16) (v150 : FVec F S1024x8x128 .bf16) (v167 : FVec F S1024x128 .bf16) (v184 : FVec F S1024x128 .bf16) (v201 : FVec F S1024x128 .bf16) (v218 : FVec F S1024x128 .bf16) (v235 : FVec F S1024x128 .bf16) (v252 : FVec F S1024x128 .bf16) (v266 : FVec F S1024x128 .f32) (v267 : FVec F S1024x128 .f32) (q : PosShare TreeShare) (X : (cc0_stg3_0 : Ref sig .tc).ty.Contents (Elt F)) (l : List (Bool × Fin 15)) (hl : ∀ x ∈ l, 2 < lvk x.2) {Q : _ → sProp 𝕄} :
    iprop(records m ρ K ∗ levAts L lv ∗ oP m ρ c R0.set q ∗ bP c cc0_stg3_0 X ∗ wt c 8 ∗ oW c (debt c l) ∗ ((oP m ρ c R0.set q ∗ bP c cc0_stg3_0 (k0_pay25 v90 v132 v147 v150 v167 v184 v201 v218 v235 v252 v266 v267 (oM.view.readAt (Elt F) R0.toLoadRect (WO m ρ c))) ∗ qP m ρ c R1.set fullShare ∗ semVal (kcell (c, 8)) 0 ∗ oW c (debt c l)) -∗ Q (Scalar.muli v5 1#32)))
      ⊢ wp frame (wpE (defs₀ (F := F)) 𝒱₀ (c : Thread nD τ) none) Set.univ (k0_part8 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v5 v7 v90 v132 v147 v150 v167 v184 v201 v218 v235 v252 v266 v267) Q := by
  rw [k0_part8_eq_skeleton]; unfold k0_part8_skel
  simp only [semSignalWord, semWaitWord, Prog.lift, Prog.bind_op, Prog.bind_ret, Prog.pure_eq_ret, Prog.bind_assoc, wp_deviceId]
  iintro ⟨#HR, #Hlev, Ho, Hout, Hw, HO, Hk⟩
  iapply (load_o m ρ c _ _ R0 subset_rfl) $$ Ho
  iintro Ho
  iapply (load_out c _) $$ Hout
  iintro Hout
  iapply (store_out c _ _) $$ Hout
  iintro Hout
  iapply (await m ρ K c 8 (by decide) (P := qP m ρ c R1.set fullShare) rfl (sem := s4 cc0_scratch4 1) rfl (dst := sq qM 1) rfl l hl) $$ [Hw HO]
  · isplitr; · iexact HR
    isplitr; · iexact Hlev
    isplitl [Hw]; · iexact Hw
    iexact HO
  iintro ⟨Hq1, Hz, HO⟩
  rw [wp_ret]; imodintro
  iapply Hk
  isplitl [Ho]; · iexact Ho
  isplitl [Hout]; · iexact Hout
  isplitl [Hq1]; · iexact Hq1
  isplitl [Hz]; · iexact Hz
  iexact HO

end Cert.Ring

end
-- ==== Proof.PartsB.lean ====
/-
The parts of the kernel's body that touch memory, ninth to seventeenth: the second hop, the second group of heads, the third hop, and
the third group's reads.
-/
module

public import proofs.«01_k».proof.Proof.PartsA

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

theorem off2_3 (c : Dev nD) : k0_off2 c 3#32 = ![0, 0, 8 * (fwd c 3).val, 0] := (k0_off2_eq c 2).trans (by simp only [fwd]; rfl)
theorem off2_2 (c : Dev nD) : k0_off2 c 2#32 = ![0, 0, 8 * (fwd c 2).val, 0] := (k0_off2_eq c 1).trans (by simp only [fwd]; rfl)
theorem off2_1 (c : Dev nD) : k0_off2 c 1#32 = ![0, 0, 8 * (fwd c 1).val, 0] := (k0_off2_eq c 0).trans (by simp only [fwd]; rfl)

theorem oP_cut (c : Dev nD) (S : Finset S4x1024x1024.Idx) : oP m ρ c S fullShare ⊢ iprop(oP m ρ c S fullShare.left ∗ oP m ρ c S fullShare.right) :=
  (pointsTo_share (PosShare.mem_left_op_right fullShare)).1
theorem oP_glue (c : Dev nD) (S : Finset S4x1024x1024.Idx) : iprop(oP m ρ c S fullShare.left ∗ oP m ρ c S fullShare.right) ⊢ oP m ρ c S fullShare :=
  (pointsTo_share (PosShare.mem_left_op_right fullShare)).2
theorem qP_cut (c : Dev nD) (S : Finset S4x1024x1024.Idx) : qP m ρ c S fullShare ⊢ iprop(qP m ρ c S fullShare.left ∗ qP m ρ c S fullShare.right) :=
  (pointsTo_share (PosShare.mem_left_op_right fullShare)).1
theorem qP_glue (c : Dev nD) (S : Finset S4x1024x1024.Idx) : iprop(qP m ρ c S fullShare.left ∗ qP m ρ c S fullShare.right) ⊢ qP m ρ c S fullShare :=
  (pointsTo_share (PosShare.mem_left_op_right fullShare)).2

theorem part9 (c : Dev nD) (v2 : BitVec 32) (v5 : BitVec 32) (v7 : BitVec 32) (v300 : BitVec 32) (l : List (Bool × Fin 15)) (hl : ∀ x ∈ (true, 9) :: (false, 13) :: l, lvk 12 < lvk x.2) {Q : _ → sProp 𝕄} :
    iprop(records m ρ K ∗ levAts L lv ∗ wt c 12 ∗ oW c (debt c ((true, 9) :: (false, 13) :: l)) ∗ qP m ρ c R1.set fullShare.right ∗ qE (nxt c) R2.set ∗ sg c 1 ∗ oE (prv c) R2.set ∗ sg c 5 ∗ ((semVal (kcell (c, 12)) 0 ∗ oP m ρ c R1.set fullShare.left ∗ wt c 2 ∗ wt c 6 ∗ oW c (debt c l)) -∗ Q ⟨Scalar.remsi (Scalar.addi v2 3#32) 4#32, 8#32⟩))
      ⊢ wp frame (wpE (defs₀ (F := F)) 𝒱₀ (c : Thread nD τ) none) Set.univ (k0_part9 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v2 v5 v7 v300) Q := by
  rw [k0_part9_eq_skeleton]; unfold k0_part9_skel
  simp only [semSignalWord, semWaitWord, Prog.lift, Prog.bind_op, Prog.bind_ret, Prog.pure_eq_ret, Prog.bind_assoc, wp_deviceId]
  iintro ⟨#HR, #Hlev, Hw, HO, Hq, HqN, Hgq, HoP, Hgo, Hk⟩
  iapply (await m ρ K c 12 (by decide) (P := oP m ρ c R1.set fullShare) rfl (sem := s4 cc0_scratch6 1) rfl (dst := sq oM 1) rfl ((true, 9) :: (false, 13) :: l) hl) $$ [Hw HO]
  · isplitr; · iexact HR
    isplitr; · iexact Hlev
    isplitl [Hw]; · iexact Hw
    iexact HO
  iintro ⟨Ho, Hz, HO⟩
  ihave Ho := (oP_cut m ρ c R1.set) $$ Ho
  icases Ho with ⟨Hol, Hor⟩
  iapply (send1 m ρ K c _ (dev5_eq c) ((false, 13) :: l)) $$ [Hq HqN Hgq HO]
  · isplitr; · iexact HR
    isplitl [Hq]; · iexact Hq
    isplitl [HqN]; · iexact HqN
    isplitl [Hgq]; · iexact Hgq
    iexact HO
  iintro ⟨Hwq, HO⟩
  iapply (send5 m ρ K c _ (dev6_eq c) l) $$ [Hor HoP Hgo HO]
  · isplitr; · iexact HR
    isplitl [Hor]; · iexact Hor
    isplitl [HoP]; · iexact HoP
    isplitl [Hgo]; · iexact Hgo
    iexact HO
  iintro ⟨Hwo, HO⟩
  rw [wp_ret]; imodintro
  iapply Hk
  isplitl [Hz]; · iexact Hz
  isplitl [Hol]; · iexact Hol
  isplitl [Hwq]; · iexact Hwq
  isplitl [Hwo]; · iexact Hwo
  iexact HO

theorem part10 (c : Dev nD) (v94 : FVec F S1024x1024 .bf16) (v329 : BitVec 32) (c8_i32_180 : BitVec 32) (q : PosShare TreeShare) (l : List (Bool × Fin 15)) (hl : ∀ x ∈ l, 0 < lvk x.2) {Q : _ → sProp 𝕄} :
    iprop(levAts L lv ∗ kP m c ∗ vP m c ∗ kvE c RK0.set ∗ kvE c RK1.set ∗ semVal ((c : Thread nD τ), .dma (ds 24)) 0 ∗ semVal ((c : Thread nD τ), .dma (ds 25)) 0 ∗ qP m ρ c R1.set q ∗ oW c (debt c l) ∗ ((kP m c ∗ kvP m c (fwd c 3) RK0.set ∗ semVal ((c : Thread nD τ), .dma (ds 24)) 0 ∗ fl1 m c (k0_off2 c 3#32) (k0_off2_inb c 2) ∗ qP m ρ c R1.set q ∗ oW c (debt c l)) -∗ Q (k0_pay26 v94 (qM.view.readAt (Elt F) R1.toLoadRect (WQ m ρ c)))))
      ⊢ wp frame (wpE (defs₀ (F := F)) 𝒱₀ (c : Thread nD τ) none) Set.univ (k0_part10 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v94 v329 c8_i32_180) Q := by
  rw [k0_part10_eq_skeleton]; unfold k0_part10_skel
  simp only [semSignalWord, semWaitWord, Prog.lift, Prog.bind_op, Prog.bind_ret, Prog.pure_eq_ret, Prog.bind_assoc, wp_deviceId]
  iintro ⟨#Hlev, HkP, HvP, Hd0, Hd1, Hz0, Hz1, Hq, HO, Hk⟩
  iapply (fetch0 m c (k0_off2 c 3#32) (k0_off2_inb c 2)) $$ [HkP Hd0 Hz0]
  · isplitl [HkP]; · iexact HkP
    isplitl [Hd0]; · iexact Hd0
    iexact Hz0
  iintro Hf0
  iapply (fetch1 m c (k0_off2 c 3#32) (k0_off2_inb c 2)) $$ [HvP Hd1 Hz1]
  · isplitl [HvP]; · iexact HvP
    isplitl [Hd1]; · iexact Hd1
    iexact Hz1
  iintro Hf1
  iapply (load_q m ρ c _ _ R1 subset_rfl) $$ Hq
  iintro Hq
  iapply (land0 m c (fwd c 3) (k0_off2 c 3#32) (k0_off2_inb c 2) (off2_3 c) l hl) $$ [Hf0 HO]
  · isplitl [Hf0]; · iexact Hf0
    isplitr; · iexact Hlev
    iexact HO
  iintro ⟨HkP, Hd0, Hz0, HO⟩
  rw [wp_ret]; imodintro
  iapply Hk
  isplitl [HkP]; · iexact HkP
  isplitl [Hd0]; · iexact Hd0
  isplitl [Hz0]; · iexact Hz0
  isplitl [Hf1]; · iexact Hf1
  isplitl [Hq]; · iexact Hq
  iexact HO

theorem part11 (c : Dev nD) (v90 : IVec S1024x1024 1) (v347 : FVec F S1024x1024 .bf16) (l : List (Bool × Fin 15)) (hl : ∀ x ∈ l, 0 < lvk x.2) {Q : _ → sProp 𝕄} :
    iprop(levAts L lv ∗ fl1 m c (k0_off2 c 3#32) (k0_off2_inb c 2) ∗ oW c (debt c l) ∗ kvP m c (fwd c 3) RK0.set ∗ ((vP m c ∗ kvP m c (fwd c 3) RK0.set ∗ kvP m c (fwd c 3) RK1.set ∗ semVal ((c : Thread nD τ), .dma (ds 25)) 0 ∗ oW c (debt c l)) -∗ Q ⟨k0_pay27 (kvM.view.readAt (Elt F) RK0.toLoadRect (KV m c (fwd c 3))), k0_pay28 (kvM.view.readAt (Elt F) RK1.toLoadRect (KV m c (fwd c 3))), k0_pay29 v90 v347 (kvM.view.readAt (Elt F) RK0.toLoadRect (KV m c (fwd c 3))) (kvM.view.readAt (Elt F) RK1.toLoadRect (KV m c (fwd c 3))), k0_pay30 v90 v347 (kvM.view.readAt (Elt F) RK0.toLoadRect (KV m c (fwd c 3))), k0_pay31 v90 v347 (kvM.view.readAt (Elt F) RK0.toLoadRect (KV m c (fwd c 3)))⟩))
      ⊢ wp frame (wpE (defs₀ (F := F)) 𝒱₀ (c : Thread nD τ) none) Set.univ (k0_part11 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v90 v347) Q := by
  rw [k0_part11_eq_skeleton]; unfold k0_part11_skel
  simp only [semSignalWord, semWaitWord, Prog.lift, Prog.bind_op, Prog.bind_ret, Prog.pure_eq_ret, Prog.bind_assoc, wp_deviceId]
  iintro ⟨#Hlev, Hf1, HO, Hd0, Hk⟩
  iapply (land1 m c (fwd c 3) (k0_off2 c 3#32) (k0_off2_inb c 2) (off2_3 c) l hl) $$ [Hf1 HO]
  · isplitl [Hf1]; · iexact Hf1
    isplitr; · iexact Hlev
    iexact HO
  iintro ⟨HvP, Hd1, Hz1, HO⟩
  iapply (load_kv m c _ (fwd c 3) RK0 subset_rfl) $$ Hd0
  iintro Hd0
  iapply (load_kv m c _ (fwd c 3) RK1 subset_rfl) $$ Hd1
  iintro Hd1
  rw [wp_ret]; imodintro
  iapply Hk
  isplitl [HvP]; · iexact HvP
  isplitl [Hd0]; · iexact Hd0
  isplitl [Hd1]; · iexact Hd1
  isplitl [Hz1]; · iexact Hz1
  iexact HO

theorem part14 (c : Dev nD) (v5 : BitVec 32) (v7 : BitVec 32) (v90 : IVec S1024x1024 1) (v365 : FVec F S1024x8x128 .bf16) (v382 : FVec F S1024x128 .bf16) (v399 : FVec F S1024x128 .bf16) (v416 : FVec F S1024x128 .bf16) (v433 : FVec F S1024x128 .bf16) (v450 : FVec F S1024x128 .bf16) (v467 : FVec F S1024x128 .bf16) (v484 : FVec F S1024x128 .bf16) (v490 : FVec F S1024x1024 .bf16) (cst_255 : F .bf16) (l : List (Bool × Fin 15)) (hl : ∀ x ∈ l, lvk 9 < lvk x.2) {Q : _ → sProp 𝕄} :
    iprop(records m ρ K ∗ levAts L lv ∗ wt c 9 ∗ wt c 13 ∗ oW c (debt c l) ∗ ((qP m ρ c R2.set fullShare ∗ semVal (kcell (c, 9)) 0 ∗ oP m ρ c R2.set fullShare ∗ semVal (kcell (c, 13)) 0 ∗ oW c (debt c l)) -∗ Q (k0_pay41 v90 v365 v382 v399 v416 v433 v450 v467 v484 v490 cst_255)))
      ⊢ wp frame (wpE (defs₀ (F := F)) 𝒱₀ (c : Thread nD τ) none) Set.univ (k0_part14 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v5 v7 v90 v365 v382 v399 v416 v433 v450 v467 v484 v490 cst_255) Q := by
  rw [k0_part14_eq_skeleton]; unfold k0_part14_skel
  simp only [semSignalWord, semWaitWord, Prog.lift, Prog.bind_op, Prog.bind_ret, Prog.pure_eq_ret, Prog.bind_assoc, wp_deviceId]
  iintro ⟨#HR, #Hlev, Hwq, Hwo, HO, Hk⟩
  iapply (await m ρ K c 9 (by decide) (P := qP m ρ c R2.set fullShare) rfl (sem := s4 cc0_scratch4 2) rfl (dst := sq qM 2) rfl l hl) $$ [Hwq HO]
  · isplitr; · iexact HR
    isplitr; · iexact Hlev
    isplitl [Hwq]; · iexact Hwq
    iexact HO
  iintro ⟨Hq, Hz, HO⟩
  iapply (await m ρ K c 13 (by decide) (P := oP m ρ c R2.set fullShare) rfl (sem := s4 cc0_scratch6 2) rfl (dst := sq oM 2) rfl l hl) $$ [Hwo HO]
  · isplitr; · iexact HR
    isplitr; · iexact Hlev
    isplitl [Hwo]; · iexact Hwo
    iexact HO
  iintro ⟨Ho, Hz1, HO⟩
  rw [wp_ret]; imodintro
  iapply Hk
  isplitl [Hq]; · iexact Hq
  isplitl [Hz]; · iexact Hz
  isplitl [Ho]; · iexact Ho
  isplitl [Hz1]; · iexact Hz1
  iexact HO

theorem part15 (c : Dev nD) (v5 : BitVec 32) (v7 : BitVec 32) (X : (cc0_stg3_0 : Ref sig .tc).ty.Contents (Elt F)) (l : List (Bool × Fin 15)) {Q : _ → sProp 𝕄} :
    iprop(records m ρ K ∗ oW c (debt c ((true, 10) :: (true, 11) :: (false, 14) :: l)) ∗ qP m ρ c R2l.set fullShare.right ∗ qP m ρ c R2r.set fullShare.right ∗ qE (nxt c) R3l.set ∗ qE (nxt c) R3r.set ∗ sg c 2 ∗ sg c 3 ∗ oP m ρ c R2.set fullShare.right ∗ oE (prv c) R3.set ∗ sg c 6 ∗ bP c cc0_stg3_0 X ∗ ((wt c 3 ∗ wt c 4 ∗ wt c 7 ∗ bP c cc0_stg3_0 X ∗ oW c (debt c l)) -∗ Q ⟨k0_pay42 X, 2#32⟩))
      ⊢ wp frame (wpE (defs₀ (F := F)) 𝒱₀ (c : Thread nD τ) none) Set.univ (k0_part15 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v5 v7) Q := by
  rw [k0_part15_eq_skeleton]; unfold k0_part15_skel
  simp only [semSignalWord, semWaitWord, Prog.lift, Prog.bind_op, Prog.bind_ret, Prog.pure_eq_ret, Prog.bind_assoc, wp_deviceId]
  iintro ⟨#HR, HO, Hql, Hqr, HqN, HqM, Hg2, Hg3, Ho, HoP, Hg6, Hout, Hk⟩
  iapply (send2 m ρ K c _ (dev7_eq c) ((true, 11) :: (false, 14) :: l)) $$ [Hql HqN Hg2 HO]
  · isplitr; · iexact HR
    isplitl [Hql]; · iexact Hql
    isplitl [HqN]; · iexact HqN
    isplitl [Hg2]; · iexact Hg2
    iexact HO
  iintro ⟨Hw2, HO⟩
  iapply (send3 m ρ K c _ (dev8_eq c) ((false, 14) :: l)) $$ [Hqr HqM Hg3 HO]
  · isplitr; · iexact HR
    isplitl [Hqr]; · iexact Hqr
    isplitl [HqM]; · iexact HqM
    isplitl [Hg3]; · iexact Hg3
    iexact HO
  iintro ⟨Hw3, HO⟩
  iapply (send6 m ρ K c _ (dev9_eq c) l) $$ [Ho HoP Hg6 HO]
  · isplitr; · iexact HR
    isplitl [Ho]; · iexact Ho
    isplitl [HoP]; · iexact HoP
    isplitl [Hg6]; · iexact Hg6
    iexact HO
  iintro ⟨Hw6, HO⟩
  iapply (load_out c _) $$ Hout
  iintro Hout
  rw [wp_ret]; imodintro
  iapply Hk
  isplitl [Hw2]; · iexact Hw2
  isplitl [Hw3]; · iexact Hw3
  isplitl [Hw6]; · iexact Hw6
  isplitl [Hout]; · iexact Hout
  iexact HO

theorem part16 (c : Dev nD) (v2 : BitVec 32) (v94 : FVec F S1024x1024 .bf16) (c2_i32_309 : BitVec 32) (q : PosShare TreeShare) (l : List (Bool × Fin 15)) (hl : ∀ x ∈ l, 0 < lvk x.2) {Q : _ → sProp 𝕄} :
    iprop(levAts L lv ∗ kP m c ∗ vP m c ∗ kvE c RK0.set ∗ kvE c RK1.set ∗ semVal ((c : Thread nD τ), .dma (ds 24)) 0 ∗ semVal ((c : Thread nD τ), .dma (ds 25)) 0 ∗ qP m ρ c R2.set q ∗ oW c (debt c l) ∗ ((kP m c ∗ kvP m c (fwd c 2) RK0.set ∗ semVal ((c : Thread nD τ), .dma (ds 24)) 0 ∗ fl1 m c (k0_off2 c 2#32) (k0_off2_inb c 1) ∗ qP m ρ c R2.set q ∗ oW c (debt c l)) -∗ Q (k0_pay43 v94 (qM.view.readAt (Elt F) R2.toLoadRect (WQ m ρ c)))))
      ⊢ wp frame (wpE (defs₀ (F := F)) 𝒱₀ (c : Thread nD τ) none) Set.univ (k0_part16 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v2 v94 c2_i32_309) Q := by
  rw [k0_part16_eq_skeleton]; unfold k0_part16_skel
  simp only [semSignalWord, semWaitWord, Prog.lift, Prog.bind_op, Prog.bind_ret, Prog.pure_eq_ret, Prog.bind_assoc, wp_deviceId]
  iintro ⟨#Hlev, HkP, HvP, Hd0, Hd1, Hz0, Hz1, Hq, HO, Hk⟩
  iapply (fetch0 m c (k0_off2 c 2#32) (k0_off2_inb c 1)) $$ [HkP Hd0 Hz0]
  · isplitl [HkP]; · iexact HkP
    isplitl [Hd0]; · iexact Hd0
    iexact Hz0
  iintro Hf0
  iapply (fetch1 m c (k0_off2 c 2#32) (k0_off2_inb c 1)) $$ [HvP Hd1 Hz1]
  · isplitl [HvP]; · iexact HvP
    isplitl [Hd1]; · iexact Hd1
    iexact Hz1
  iintro Hf1
  iapply (load_q m ρ c _ _ R2 subset_rfl) $$ Hq
  iintro Hq
  iapply (land0 m c (fwd c 2) (k0_off2 c 2#32) (k0_off2_inb c 1) (off2_2 c) l hl) $$ [Hf0 HO]
  · isplitl [Hf0]; · iexact Hf0
    isplitr; · iexact Hlev
    iexact HO
  iintro ⟨HkP, Hd0, Hz0, HO⟩
  rw [wp_ret]; imodintro
  iapply Hk
  isplitl [HkP]; · iexact HkP
  isplitl [Hd0]; · iexact Hd0
  isplitl [Hz0]; · iexact Hz0
  isplitl [Hf1]; · iexact Hf1
  isplitl [Hq]; · iexact Hq
  iexact HO

theorem part17 (c : Dev nD) (v90 : IVec S1024x1024 1) (v570 : FVec F S1024x1024 .bf16) (l : List (Bool × Fin 15)) (hl : ∀ x ∈ l, 0 < lvk x.2) {Q : _ → sProp 𝕄} :
    iprop(levAts L lv ∗ fl1 m c (k0_off2 c 2#32) (k0_off2_inb c 1) ∗ oW c (debt c l) ∗ kvP m c (fwd c 2) RK0.set ∗ ((vP m c ∗ kvP m c (fwd c 2) RK0.set ∗ kvP m c (fwd c 2) RK1.set ∗ semVal ((c : Thread nD τ), .dma (ds 25)) 0 ∗ oW c (debt c l)) -∗ Q ⟨k0_pay44 (kvM.view.readAt (Elt F) RK0.toLoadRect (KV m c (fwd c 2))), k0_pay45 (kvM.view.readAt (Elt F) RK1.toLoadRect (KV m c (fwd c 2))), k0_pay46 v90 v570 (kvM.view.readAt (Elt F) RK0.toLoadRect (KV m c (fwd c 2))) (kvM.view.readAt (Elt F) RK1.toLoadRect (KV m c (fwd c 2))), k0_pay47 v90 v570 (kvM.view.readAt (Elt F) RK0.toLoadRect (KV m c (fwd c 2)))⟩))
      ⊢ wp frame (wpE (defs₀ (F := F)) 𝒱₀ (c : Thread nD τ) none) Set.univ (k0_part17 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v90 v570) Q := by
  rw [k0_part17_eq_skeleton]; unfold k0_part17_skel
  simp only [semSignalWord, semWaitWord, Prog.lift, Prog.bind_op, Prog.bind_ret, Prog.pure_eq_ret, Prog.bind_assoc, wp_deviceId]
  iintro ⟨#Hlev, Hf1, HO, Hd0, Hk⟩
  iapply (land1 m c (fwd c 2) (k0_off2 c 2#32) (k0_off2_inb c 1) (off2_2 c) l hl) $$ [Hf1 HO]
  · isplitl [Hf1]; · iexact Hf1
    isplitr; · iexact Hlev
    iexact HO
  iintro ⟨HvP, Hd1, Hz1, HO⟩
  iapply (load_kv m c _ (fwd c 2) RK0 subset_rfl) $$ Hd0
  iintro Hd0
  iapply (load_kv m c _ (fwd c 2) RK1 subset_rfl) $$ Hd1
  iintro Hd1
  rw [wp_ret]; imodintro
  iapply Hk
  isplitl [HvP]; · iexact HvP
  isplitl [Hd0]; · iexact Hd0
  isplitl [Hd1]; · iexact Hd1
  isplitl [Hz1]; · iexact Hz1
  iexact HO

end Cert.Ring

end
-- ==== Proof.PartsC.lean ====
/-
The parts of the kernel's body that touch memory, twentieth to last: the third group's store, the fourth's two halves, the second
group's product with the last output block, and the waits for what was sent.
-/
module

public import proofs.«01_k».proof.Proof.PartsB

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-- A half of a slot's rows lies in the slot. -/
theorem half_sub (off : Fin 3 → ℕ) (h : ∀ a, off a + S1x512x1024.size a ≤ S4x1024x1024.size a) (h0 : off 0 = 1) :
    (Rect.unit (s := S4x1024x1024) off S1x512x1024.size h).set ⊆ R1.set := by
  intro i hi
  rw [Rect.mem_set_unit] at hi ⊢
  intro a; have := hi a; have hs := h a
  fin_cases a <;> simp [S1x512x1024, S1x1024x1024, S4x1024x1024] at * <;> omega

theorem part20 (c : Dev nD) (v2 : BitVec 32) (v90 : IVec S1024x1024 1) (v550 : FVec F S1024x1024 .f32) (v588 : FVec F S1024x8x128 .bf16) (v605 : FVec F S1024x128 .bf16) (v622 : FVec F S1024x128 .bf16) (v639 : FVec F S1024x128 .bf16) (v656 : FVec F S1024x128 .bf16) (v673 : FVec F S1024x128 .bf16) (v690 : FVec F S1024x128 .bf16) (v707 : FVec F S1024x128 .bf16) (v708 : FVec F S1024x128 .bf16) (v710 : FVec F S1024x128 .bf16) (cst_384 : FVec F S1024x1024 .f32) (X : (cc0_stg3_0 : Ref sig .tc).ty.Contents (Elt F)) (q : PosShare TreeShare) {Q : _ → sProp 𝕄} :
    iprop(oP m ρ c R2.set q ∗ bP c cc0_stg3_0 X ∗ kP m c ∗ kvE c RK0.set ∗ semVal ((c : Thread nD τ), .dma (ds 24)) 0 ∗ ((oP m ρ c R2.set q ∗ bP c cc0_stg3_0 (k0_pay57 v90 v550 v588 v605 v622 v639 v656 v673 v690 v707 v708 v710 cst_384 (oM.view.readAt (Elt F) R2.toLoadRect (WO m ρ c))) ∗ fl0 m c (k0_off2 c 1#32) (k0_off2_inb c 0)) -∗ Q ⟨⟩))
      ⊢ wp frame (wpE (defs₀ (F := F)) 𝒱₀ (c : Thread nD τ) none) Set.univ (k0_part20 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v2 v90 v550 v588 v605 v622 v639 v656 v673 v690 v707 v708 v710 cst_384) Q := by
  rw [k0_part20_eq_skeleton]; unfold k0_part20_skel
  simp only [semSignalWord, semWaitWord, Prog.lift, Prog.bind_op, Prog.bind_ret, Prog.pure_eq_ret, Prog.bind_assoc, wp_deviceId]
  iintro ⟨Ho, Hout, HkP, Hd0, Hz0, Hk⟩
  iapply (load_o m ρ c _ _ R2 subset_rfl) $$ Ho
  iintro Ho
  iapply (load_out c _) $$ Hout
  iintro Hout
  iapply (store_out c _ _) $$ Hout
  iintro Hout
  iapply (fetch0 m c (k0_off2 c 1#32) (k0_off2_inb c 0)) $$ [HkP Hd0 Hz0]
  · isplitl [HkP]; · iexact HkP
    isplitl [Hd0]; · iexact Hd0
    iexact Hz0
  iintro Hf0
  rw [wp_ret]; imodintro
  iapply Hk
  isplitl [Ho]; · iexact Ho
  isplitl [Hout]; · iexact Hout
  iexact Hf0

theorem part21 (c : Dev nD) (v7 : BitVec 32) (l : List (Bool × Fin 15)) (hl : ∀ x ∈ l, 0 < lvk x.2) {Q : _ → sProp 𝕄} :
    iprop(levAts L lv ∗ fl0 m c (k0_off2 c 1#32) (k0_off2_inb c 0) ∗ vP m c ∗ kvE c RK1.set ∗ semVal ((c : Thread nD τ), .dma (ds 25)) 0 ∗ oW c (debt c l) ∗ ((kP m c ∗ vP m c ∗ kvP m c (fwd c 1) RK0.set ∗ kvP m c (fwd c 1) RK1.set ∗ semVal ((c : Thread nD τ), .dma (ds 24)) 0 ∗ semVal ((c : Thread nD τ), .dma (ds 25)) 0 ∗ oW c (debt c l)) -∗ Q ⟨k0_pay58 (kvM.view.readAt (Elt F) RK0.toLoadRect (KV m c (fwd c 1))), k0_pay59 (kvM.view.readAt (Elt F) RK1.toLoadRect (KV m c (fwd c 1)))⟩))
      ⊢ wp frame (wpE (defs₀ (F := F)) 𝒱₀ (c : Thread nD τ) none) Set.univ (k0_part21 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 c v7) Q := by
  rw [k0_part21_eq_skeleton]; unfold k0_part21_skel
  simp only [semSignalWord, semWaitWord, Prog.lift, Prog.bind_op, Prog.bind_ret, Prog.pure_eq_ret, Prog.bind_assoc, wp_deviceId]
  iintro ⟨#Hlev, Hf0, HvP, Hd1, Hz1, HO, Hk⟩
  iapply (fetch1 m c (k0_off2 c 1#32) (k0_off2_inb c 0)) $$ [HvP Hd1 Hz1]
  · isplitl [HvP]; · iexact HvP
    isplitl [Hd1]; · iexact Hd1
    iexact Hz1
  iintro Hf1
  iapply (land0 m c (fwd c 1) (k0_off2 c 1#32) (k0_off2_inb c 0) (off2_1 c) l hl) $$ [Hf0 HO]
  · isplitl [Hf0]; · iexact Hf0
    isplitr; · iexact Hlev
    iexact HO
  iintro ⟨HkP, Hd0, Hz0, HO⟩
  iapply (land1 m c (fwd c 1) (k0_off2 c 1#32) (k0_off2_inb c 0) (off2_1 c) l hl) $$ [Hf1 HO]
  · isplitl [Hf1]; · iexact Hf1
    isplitr; · iexact Hlev
    iexact HO
  iintro ⟨HvP, Hd1, Hz1, HO⟩
  iapply (load_kv m c _ (fwd c 1) RK0 subset_rfl) $$ Hd0
  iintro Hd0
  iapply (load_kv m c _ (fwd c 1) RK1 subset_rfl) $$ Hd1
  iintro Hd1
  rw [wp_ret]; imodintro
  iapply Hk
  isplitl [HkP]; · iexact HkP
  isplitl [HvP]; · iexact HvP
  isplitl [Hd0]; · iexact Hd0
  isplitl [Hd1]; · iexact Hd1
  isplitl [Hz0]; · iexact Hz0
  isplitl [Hz1]; · iexact Hz1
  iexact HO

theorem part22 (c : Dev nD) (v90 : IVec S1024x1024 1) (v94 : FVec F S1024x1024 .bf16) (v761 : FVec F S1024x8x128 .bf16) (v764 : FVec F S1024x8x128 .bf16) (l : List (Bool × Fin 15)) (hl : ∀ x ∈ l, lvk 10 < lvk x.2) {Q : _ → sProp 𝕄} :
    iprop(records m ρ K ∗ levAts L lv ∗ wt c 10 ∗ oW c (debt c l) ∗ ((qP m ρ c R3l.set fullShare ∗ semVal (kcell (c, 10)) 0 ∗ oW c (debt c l)) -∗ Q ⟨k0_pay60 v94 (qM.view.readAt (Elt F) R3l.toLoadRect (WQ m ρ c)), k0_pay61 v90 v94 v761 v764 (qM.view.readAt (Elt F) R3l.toLoadRect (WQ m ρ c)), k0_pay62 v90 v94 v761 v764 (qM.view.readAt (Elt F) R3l.toLoadRect (WQ m ρ c))⟩))
      ⊢ wp frame (wpE (defs₀ (F := F)) 𝒱₀ (c : Thread nD τ) none) Set.univ (k0_part22 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v94 v761 v764) Q := by
  rw [k0_part22_eq_skeleton]; unfold k0_part22_skel
  simp only [semSignalWord, semWaitWord, Prog.lift, Prog.bind_op, Prog.bind_ret, Prog.pure_eq_ret, Prog.bind_assoc, wp_deviceId]
  iintro ⟨#HR, #Hlev, Hw, HO, Hk⟩
  iapply (await m ρ K c 10 (by decide) (P := qP m ρ c R3l.set fullShare) rfl (sem := s2 cc0_scratch8 0) rfl (dst := q3l) rfl l hl) $$ [Hw HO]
  · isplitr; · iexact HR
    isplitr; · iexact Hlev
    isplitl [Hw]; · iexact Hw
    iexact HO
  iintro ⟨Hq, Hz, HO⟩
  iapply (load_q m ρ c _ _ R3l subset_rfl) $$ Hq
  iintro Hq
  rw [wp_ret]; imodintro
  iapply Hk
  isplitl [Hq]; · iexact Hq
  isplitl [Hz]; · iexact Hz
  iexact HO

theorem part23 (c : Dev nD) (v90 : IVec S1024x1024 1) (v761 : FVec F S1024x8x128 .bf16) (v764 : FVec F S1024x8x128 .bf16) (v776 : FVec F S1024x512 .bf16) (v793 : FVec F S1024x128 .bf16) (v809 : FVec F S1024x128 .f32) (X : (cc0_stg3_0 : Ref sig .tc).ty.Contents (Elt F)) (q : PosShare TreeShare) {Q : _ → sProp 𝕄} :
    iprop(bP c cc0_stg3_0 X ∗ oP m ρ c R1.set q ∗ ((bP c cc0_stg3_0 (k0_pay63 v90 v761 v764 v776 v793 v809 X (oM.view.readAt (Elt F) (Rect.unit (s := S4x1024x1024) ![1, 0, 0] S1x512x1024.size inb_S4x1024x1024_S1x512x1024_1_0_0).toLoadRect (WO m ρ c))) ∗ oP m ρ c R1.set q) -∗ Q ⟨⟩))
      ⊢ wp frame (wpE (defs₀ (F := F)) 𝒱₀ (c : Thread nD τ) none) Set.univ (k0_part23 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v761 v764 v776 v793 v809) Q := by
  rw [k0_part23_eq_skeleton]; unfold k0_part23_skel
  simp only [semSignalWord, semWaitWord, Prog.lift, Prog.bind_op, Prog.bind_ret, Prog.pure_eq_ret, Prog.bind_assoc, wp_deviceId]
  iintro ⟨Hout, Ho, Hk⟩
  iapply (load_out c _) $$ Hout
  iintro Hout
  iapply (load_o m ρ c _ _ (Rect.unit (s := S4x1024x1024) ![1, 0, 0] S1x512x1024.size inb_S4x1024x1024_S1x512x1024_1_0_0) (half_sub _ _ rfl)) $$ Ho
  iintro Ho
  iapply (load_out c _) $$ Hout
  iintro Hout
  iapply (store_out c _ _) $$ Hout
  iintro Hout
  rw [wp_ret]; imodintro
  iapply Hk
  isplitl [Hout]; · iexact Hout
  iexact Ho

theorem part24 (c : Dev nD) (v7 : BitVec 32) (v90 : IVec S1024x1024 1) (v94 : FVec F S1024x1024 .bf16) (v761 : FVec F S1024x8x128 .bf16) (v764 : FVec F S1024x8x128 .bf16) (l : List (Bool × Fin 15)) (hl : ∀ x ∈ l, lvk 11 < lvk x.2) {Q : _ → sProp 𝕄} :
    iprop(records m ρ K ∗ levAts L lv ∗ wt c 11 ∗ oW c (debt c l) ∗ ((qP m ρ c R3r.set fullShare ∗ semVal (kcell (c, 11)) 0 ∗ oW c (debt c l)) -∗ Q ⟨k0_pay64 v94 (qM.view.readAt (Elt F) R3r.toLoadRect (WQ m ρ c)), k0_pay65 v90 v94 v761 v764 (qM.view.readAt (Elt F) R3r.toLoadRect (WQ m ρ c)), k0_pay66 v90 v94 v761 (qM.view.readAt (Elt F) R3r.toLoadRect (WQ m ρ c)), k0_pay67 v90 v94 v761 (qM.view.readAt (Elt F) R3r.toLoadRect (WQ m ρ c))⟩))
      ⊢ wp frame (wpE (defs₀ (F := F)) 𝒱₀ (c : Thread nD τ) none) Set.univ (k0_part24 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v7 v90 v94 v761 v764) Q := by
  rw [k0_part24_eq_skeleton]; unfold k0_part24_skel
  simp only [semSignalWord, semWaitWord, Prog.lift, Prog.bind_op, Prog.bind_ret, Prog.pure_eq_ret, Prog.bind_assoc, wp_deviceId]
  iintro ⟨#HR, #Hlev, Hw, HO, Hk⟩
  iapply (await m ρ K c 11 (by decide) (P := qP m ρ c R3r.set fullShare) rfl (sem := s2 cc0_scratch8 1) rfl (dst := q3r) rfl l hl) $$ [Hw HO]
  · isplitr; · iexact HR
    isplitr; · iexact Hlev
    isplitl [Hw]; · iexact Hw
    iexact HO
  iintro ⟨Hq, Hz, HO⟩
  iapply (load_q m ρ c _ _ R3r subset_rfl) $$ Hq
  iintro Hq
  rw [wp_ret]; imodintro
  iapply Hk
  isplitl [Hq]; · iexact Hq
  isplitl [Hz]; · iexact Hz
  iexact HO

theorem part25 (c : Dev nD) (v90 : IVec S1024x1024 1) (v761 : FVec F S1024x8x128 .bf16) (v764 : FVec F S1024x8x128 .bf16) (v864 : FVec F S1024x512 .bf16) (v881 : FVec F S1024x128 .bf16) (v889 : FVec F S1024x1024 .bf16) (v890 : FVec F S1024x1024 .f32) (X : (cc0_stg3_0 : Ref sig .tc).ty.Contents (Elt F)) (q : PosShare TreeShare) {Q : _ → sProp 𝕄} :
    iprop(bP c cc0_stg3_0 X ∗ oP m ρ c R1.set q ∗ ((bP c cc0_stg3_0 X ∗ oP m ρ c R1.set q) -∗ Q ⟨k0_pay68 v90 v761 v764 v864 v881 v889 v890, k0_pay69 X, (oM.view.readAt (Elt F) (Rect.unit (s := S4x1024x1024) ![1, 512, 0] S1x512x1024.size inb_S4x1024x1024_S1x512x1024_1_512_0).toLoadRect (WO m ρ c))⟩))
      ⊢ wp frame (wpE (defs₀ (F := F)) 𝒱₀ (c : Thread nD τ) none) Set.univ (k0_part25 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v761 v764 v864 v881 v889 v890) Q := by
  rw [k0_part25_eq_skeleton]; unfold k0_part25_skel
  simp only [semSignalWord, semWaitWord, Prog.lift, Prog.bind_op, Prog.bind_ret, Prog.pure_eq_ret, Prog.bind_assoc, wp_deviceId]
  iintro ⟨Hout, Ho, Hk⟩
  iapply (load_out c _) $$ Hout
  iintro Hout
  iapply (load_o m ρ c _ _ (Rect.unit (s := S4x1024x1024) ![1, 512, 0] S1x512x1024.size inb_S4x1024x1024_S1x512x1024_1_512_0) (half_sub _ _ rfl)) $$ Ho
  iintro Ho
  rw [wp_ret]; imodintro
  iapply Hk
  isplitl [Hout]; · iexact Hout
  iexact Ho

theorem part26 (c : Dev nD) (v5 : BitVec 32) (v502 : FVec F S1024x1024 .bf16) (v933 : FVec F S1024x512 .bf16) (v935 : FVec F S1024x1024 .f32) (v936 : Vec F S1x512x1024 .bf16) (X : (cc0_stg3_0 : Ref sig .tc).ty.Contents (Elt F)) {Q : _ → sProp 𝕄} :
    iprop(records m ρ K ∗ levAts L lv ∗ bP c cc0_stg3_0 X ∗ wt c 14 ∗ wt c 1 ∗ oW c (debt c []) ∗ ((bP c cc0_stg3_0 (k0_pay71 v502 (k0_pay70 v933 v935 v936) (oM.view.readAt (Elt F) R3.toLoadRect (WO m ρ c))) ∗ oP m ρ c R3.set fullShare ∗ semVal (kcell (c, 14)) 0 ∗ qP m ρ c R0.set fullShare.right ∗ semVal (kcell (c, 1)) 0 ∗ oW c (debt c [])) -∗ Q ⟨⟩))
      ⊢ wp frame (wpE (defs₀ (F := F)) 𝒱₀ (c : Thread nD τ) none) Set.univ (k0_part26 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v5 v502 v933 v935 v936) Q := by
  rw [k0_part26_eq_skeleton]; unfold k0_part26_skel
  simp only [semSignalWord, semWaitWord, Prog.lift, Prog.bind_op, Prog.bind_ret, Prog.pure_eq_ret, Prog.bind_assoc, wp_deviceId]
  iintro ⟨#HR, #Hlev, Hout, Hw14, Hw1, HO, Hk⟩
  iapply (load_out c _) $$ Hout
  iintro Hout
  iapply (store_out c _ _) $$ Hout
  iintro Hout
  iapply (await m ρ K c 14 (by decide) (P := oP m ρ c R3.set fullShare) rfl (sem := s4 cc0_scratch6 3) rfl (dst := sq oM 3) rfl [] (by decide)) $$ [Hw14 HO]
  · isplitr; · iexact HR
    isplitr; · iexact Hlev
    isplitl [Hw14]; · iexact Hw14
    iexact HO
  iintro ⟨Ho, Hz, HO⟩
  iapply (load_out c _) $$ Hout
  iintro Hout
  iapply (load_o m ρ c _ _ R3 subset_rfl) $$ Ho
  iintro Ho
  iapply (load_out c _) $$ Hout
  iintro Hout
  iapply (store_out c _ _) $$ Hout
  iintro Hout
  iapply (await m ρ K c 1 (by decide) (P := qP m ρ c R0.set fullShare.right) rfl (sem := s4 cc0_scratch3 0) rfl (dst := sq qM 0) rfl [] (by decide)) $$ [Hw1 HO]
  · isplitr; · iexact HR
    isplitr; · iexact Hlev
    isplitl [Hw1]; · iexact Hw1
    iexact HO
  iintro ⟨Hq, Hz1, HO⟩
  rw [wp_ret]; imodintro
  iapply Hk
  isplitl [Hout]; · iexact Hout
  isplitl [Ho]; · iexact Ho
  isplitl [Hz]; · iexact Hz
  isplitl [Hq]; · iexact Hq
  isplitl [Hz1]; · iexact Hz1
  iexact HO

theorem part27 (c : Dev nD)   {Q : _ → sProp 𝕄} :
    iprop(records m ρ K ∗ levAts L lv ∗ wt c 2 ∗ wt c 5 ∗ wt c 6 ∗ oW c (debt c []) ∗ ((qP m ρ c R1.set fullShare.right ∗ semVal (kcell (c, 2)) 0 ∗ oP m ρ c R0.set fullShare.right ∗ semVal (kcell (c, 5)) 0 ∗ oP m ρ c R1.set fullShare.right ∗ semVal (kcell (c, 6)) 0 ∗ oW c (debt c [])) -∗ Q ⟨⟩))
      ⊢ wp frame (wpE (defs₀ (F := F)) 𝒱₀ (c : Thread nD τ) none) Set.univ (k0_part27 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 ) Q := by
  rw [k0_part27_eq_skeleton]; unfold k0_part27_skel
  simp only [semSignalWord, semWaitWord, Prog.lift, Prog.bind_op, Prog.bind_ret, Prog.pure_eq_ret, Prog.bind_assoc, wp_deviceId]
  iintro ⟨#HR, #Hlev, Hw2, Hw5, Hw6, HO, Hk⟩
  iapply (await m ρ K c 2 (by decide) (P := qP m ρ c R1.set fullShare.right) rfl (sem := s4 cc0_scratch3 1) rfl (dst := sq qM 1) rfl [] (by decide)) $$ [Hw2 HO]
  · isplitr; · iexact HR
    isplitr; · iexact Hlev
    isplitl [Hw2]; · iexact Hw2
    iexact HO
  iintro ⟨Hq, Hz2, HO⟩
  iapply (await m ρ K c 5 (by decide) (P := oP m ρ c R0.set fullShare.right) rfl (sem := s4 cc0_scratch5 0) rfl (dst := sq oM 0) rfl [] (by decide)) $$ [Hw5 HO]
  · isplitr; · iexact HR
    isplitr; · iexact Hlev
    isplitl [Hw5]; · iexact Hw5
    iexact HO
  iintro ⟨Ho, Hz5, HO⟩
  iapply (await m ρ K c 6 (by decide) (P := oP m ρ c R1.set fullShare.right) rfl (sem := s4 cc0_scratch5 1) rfl (dst := sq oM 1) rfl [] (by decide)) $$ [Hw6 HO]
  · isplitr; · iexact HR
    isplitr; · iexact Hlev
    isplitl [Hw6]; · iexact Hw6
    iexact HO
  iintro ⟨Ho1, Hz6, HO⟩
  rw [wp_ret]; imodintro
  iapply Hk
  isplitl [Hq]; · iexact Hq
  isplitl [Hz2]; · iexact Hz2
  isplitl [Ho]; · iexact Ho
  isplitl [Hz5]; · iexact Hz5
  isplitl [Ho1]; · iexact Ho1
  isplitl [Hz6]; · iexact Hz6
  iexact HO

end Cert.Ring

end
-- ==== Proof.Stages.lean ====
/-
What the kernel computes, stage by stage; the parts of its body that only compute; and the buffers' cuts into slots.
-/
module

public import proofs.«01_k».proof.Proof.PartsC

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

/-! ## The stages -/

abbrev zf : FVec F S1024x1024 .f32 := constant S1024x1024 .f32 0x00000000#32

/-- The first group of heads: the output block it starts. -/
def st0 (v90 : IVec S1024x1024 1) (v94 : FVec F S1024x1024 .bf16) (rq : Vec F S1x1024x1024 .bf16) (rk rv : Vec F S1x1024x8x128 .f32) (ro : Vec F S1x1024x1024 .bf16) : FVec F S1024x1024 .f32 :=
  k0_pay25 v90 (k0_pay10 v94 rq) (k0_pay11 rk) (k0_pay12 rv) (k0_pay13 v90 (k0_pay10 v94 rq) rk rv)
    (k0_pay16 v90 (k0_pay12 rv) (k0_pay14 (k0_pay10 v94 rq)) (k0_pay15 rk) zf)
    (k0_pay17 v90 (k0_pay10 v94 rq) (k0_pay11 rk) (k0_pay12 rv)) (k0_pay18 v90 (k0_pay10 v94 rq) (k0_pay11 rk) (k0_pay12 rv))
    (k0_pay20 v90 (k0_pay11 rk) (k0_pay12 rv) (k0_pay19 (k0_pay10 v94 rq))) (k0_pay21 v90 (k0_pay10 v94 rq) (k0_pay11 rk) (k0_pay12 rv))
    (k0_pay23 v90 (k0_pay10 v94 rq) (k0_pay11 rk) (k0_pay12 rv)) (k0_pay24 v90 (k0_pay10 v94 rq) (k0_pay11 rk)) ro

/-- The second group's context. -/
def ctx1 (v90 : IVec S1024x1024 1) (v94 : FVec F S1024x1024 .bf16) (rq : Vec F S1x1024x1024 .bf16) (rk rv : Vec F S1x1024x8x128 .f32) : FVec F S1024x1024 .bf16 :=
  k0_pay41 v90 (k0_pay28 rv) (k0_pay29 v90 (k0_pay26 v94 rq) rk rv) (k0_pay32 (k0_pay28 rv) (k0_pay30 v90 (k0_pay26 v94 rq) rk) (k0_pay31 v90 (k0_pay26 v94 rq) rk))
    (k0_pay33 v90 (k0_pay26 v94 rq) (k0_pay27 rk) (k0_pay28 rv)) (k0_pay34 v90 (k0_pay26 v94 rq) (k0_pay27 rk) (k0_pay28 rv))
    (k0_pay37 (k0_pay28 rv) (k0_pay35 v90 (k0_pay26 v94 rq) (k0_pay27 rk)) (k0_pay36 v90 (k0_pay26 v94 rq) (k0_pay27 rk)))
    (k0_pay38 v90 (k0_pay26 v94 rq) (k0_pay27 rk) (k0_pay28 rv)) (k0_pay39 v90 (k0_pay26 v94 rq) (k0_pay27 rk) (k0_pay28 rv))
    (k0_pay40 (k0_pay26 v94 rq) (k0_pay27 rk)) (Scalar.ofBits .bf16 0x0000#16)

/-- The third group of heads, added to the output block. -/
def st2 (v90 : IVec S1024x1024 1) (v94 : FVec F S1024x1024 .bf16) (rq : Vec F S1x1024x1024 .bf16) (rk rv : Vec F S1x1024x8x128 .f32) (X : FVec F S1024x1024 .f32) (ro : Vec F S1x1024x1024 .bf16) : FVec F S1024x1024 .f32 :=
  k0_pay57 v90 (k0_pay42 X) (k0_pay45 rv) (k0_pay46 v90 (k0_pay43 v94 rq) rk rv) (k0_pay48 (k0_pay45 rv) (k0_pay47 v90 (k0_pay43 v94 rq) rk))
    (k0_pay49 v90 (k0_pay43 v94 rq) (k0_pay44 rk) (k0_pay45 rv)) (k0_pay50 v90 (k0_pay43 v94 rq) (k0_pay44 rk) (k0_pay45 rv))
    (k0_pay52 v90 (k0_pay45 rv) (k0_pay51 (k0_pay43 v94 rq) (k0_pay44 rk))) (k0_pay53 v90 (k0_pay43 v94 rq) (k0_pay44 rk) (k0_pay45 rv))
    (k0_pay54 v90 (k0_pay43 v94 rq) (k0_pay44 rk) (k0_pay45 rv)) (k0_pay55 (k0_pay43 v94 rq)) (k0_pay56 (k0_pay44 rk)) zf ro

/-- The first half of the fourth group. -/
def st3 (v90 : IVec S1024x1024 1) (v94 : FVec F S1024x1024 .bf16) (rk rv : Vec F S1x1024x8x128 .f32) (rq : Vec F S1x1024x512 .bf16) (X : FVec F S1024x1024 .f32) (ro : Vec F S1x512x1024 .bf16) : FVec F S1024x1024 .f32 :=
  k0_pay63 v90 (k0_pay58 rk) (k0_pay59 rv) (k0_pay60 v94 rq) (k0_pay61 v90 v94 (k0_pay58 rk) (k0_pay59 rv) rq) (k0_pay62 v90 v94 (k0_pay58 rk) (k0_pay59 rv) rq) X ro

/-- The second half of the fourth group. -/
def st4 (v90 : IVec S1024x1024 1) (v94 : FVec F S1024x1024 .bf16) (rk rv : Vec F S1x1024x8x128 .f32) (rq : Vec F S1x1024x512 .bf16) (X : FVec F S1024x1024 .f32) (ro : Vec F S1x512x1024 .bf16) : FVec F S1024x1024 .f32 :=
  k0_pay70 (k0_pay68 v90 (k0_pay58 rk) (k0_pay59 rv) (k0_pay64 v94 rq) (k0_pay65 v90 v94 (k0_pay58 rk) (k0_pay59 rv) rq) (k0_pay66 v90 v94 (k0_pay58 rk) rq) (k0_pay67 v90 v94 (k0_pay58 rk) rq)) (k0_pay69 X) ro

/-- The positions each query may look at. -/
def msk (c : Dev nD) : IVec S1024x1024 1 :=
  k0_pay8 (k0_pay4 (k0_pay3 c)) (k0_pay5 (iota .tc S1x1024 32 [1] iota_S1x1024_d1_w32)) (k0_pay6 (iota .tc S1x1024 32 [1] iota_S1x1024_d1_w32)) k0_pay7

def xsv (c : Dev nD) : FVec F S1024x1024 .bf16 := k0_pay9 (xB m ρ c)

abbrev RO0 : Rect S4x1024x1024 := Rect.unit (s := S4x1024x1024) ![1, 0, 0] S1x512x1024.size inb_S4x1024x1024_S1x512x1024_1_0_0
abbrev RO1 : Rect S4x1024x1024 := Rect.unit (s := S4x1024x1024) ![1, 512, 0] S1x512x1024.size inb_S4x1024x1024_S1x512x1024_1_512_0

def rdK (c : Dev nD) (g : Fin 4) : Vec F S1x1024x8x128 .f32 := kvM.view.readAt (Elt F) RK0.toLoadRect (KV m c g)
def rdV (c : Dev nD) (g : Fin 4) : Vec F S1x1024x8x128 .f32 := kvM.view.readAt (Elt F) RK1.toLoadRect (KV m c g)
def rdQ0 (c : Dev nD) : Vec F S1x1024x1024 .bf16 := qM.view.readAt (Elt F) R0.toLoadRect (WQ m ρ c)
def rdQ1 (c : Dev nD) : Vec F S1x1024x1024 .bf16 := qM.view.readAt (Elt F) R1.toLoadRect (WQ m ρ c)
def rdQ2 (c : Dev nD) : Vec F S1x1024x1024 .bf16 := qM.view.readAt (Elt F) R2.toLoadRect (WQ m ρ c)
def rdQ3l (c : Dev nD) : Vec F S1x1024x512 .bf16 := qM.view.readAt (Elt F) R3l.toLoadRect (WQ m ρ c)
def rdQ3r (c : Dev nD) : Vec F S1x1024x512 .bf16 := qM.view.readAt (Elt F) R3r.toLoadRect (WQ m ρ c)
def rdO0 (c : Dev nD) : Vec F S1x1024x1024 .bf16 := oM.view.readAt (Elt F) R0.toLoadRect (WO m ρ c)
def rdO2 (c : Dev nD) : Vec F S1x1024x1024 .bf16 := oM.view.readAt (Elt F) R2.toLoadRect (WO m ρ c)
def rdO3 (c : Dev nD) : Vec F S1x1024x1024 .bf16 := oM.view.readAt (Elt F) R3.toLoadRect (WO m ρ c)
def rdO1l (c : Dev nD) : Vec F S1x512x1024 .bf16 := oM.view.readAt (Elt F) RO0.toLoadRect (WO m ρ c)
def rdO1r (c : Dev nD) : Vec F S1x512x1024 .bf16 := oM.view.readAt (Elt F) RO1.toLoadRect (WO m ρ c)

def out0 (c : Dev nD) : FVec F S1024x1024 .f32 := st0 (msk c) (xsv m ρ c) (rdQ0 m ρ c) (rdK m c c) (rdV m c c) (rdO0 m ρ c)
def out2 (c : Dev nD) : FVec F S1024x1024 .f32 := st2 (msk c) (xsv m ρ c) (rdQ2 m ρ c) (rdK m c (fwd c 2)) (rdV m c (fwd c 2)) (out0 m ρ c) (rdO2 m ρ c)
def out3 (c : Dev nD) : FVec F S1024x1024 .f32 := st3 (msk c) (xsv m ρ c) (rdK m c (fwd c 1)) (rdV m c (fwd c 1)) (rdQ3l m ρ c) (out2 m ρ c) (rdO1l m ρ c)
def out4 (c : Dev nD) : FVec F S1024x1024 .f32 := st4 (msk c) (xsv m ρ c) (rdK m c (fwd c 1)) (rdV m c (fwd c 1)) (rdQ3r m ρ c) (out3 m ρ c) (rdO1r m ρ c)
/-- The output block of `c`. -/
def outV (c : Dev nD) : FVec F S1024x1024 .f32 := k0_pay71 (ctx1 (msk c) (xsv m ρ c) (rdQ1 m ρ c) (rdK m c (fwd c 3)) (rdV m c (fwd c 3))) (out4 m ρ c) (rdO3 m ρ c)

/-! ## The parts that only compute -/

theorem part2 (c : Dev nD) (v26 : IVec S1024x1 32) (v27 : IVec S1x1024 32) {Q : _ → sProp 𝕄} :
    Q ⟨k0_pay4 v26, k0_pay5 v27, k0_pay6 v27, k0_pay7⟩ ⊢ wp frame (wpE (defs₀ (F := F)) 𝒱₀ (c : Thread nD τ) none) Set.univ (k0_part2 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v26 v27) Q := by
  rw [k0_part2_eq_skeleton]; unfold k0_part2_skel
  simp only [Prog.pure_eq_ret]
  rw [wp_ret]; exact fupd_intro

theorem part6 (c : Dev nD) (v90 : IVec S1024x1024 1) (v132 : FVec F S1024x1024 .bf16) (v147 : FVec F S1024x8x128 .bf16) (v150 : FVec F S1024x8x128 .bf16) (v168 : FVec F S1024x128 .bf16) (v170 : FVec F S1024x128 .bf16) (cst_104 : FVec F S1024x1024 .f32) {Q : _ → sProp 𝕄} :
    Q ⟨k0_pay16 v90 v150 v168 v170 cst_104, k0_pay17 v90 v132 v147 v150, k0_pay18 v90 v132 v147 v150, k0_pay19 v132⟩ ⊢ wp frame (wpE (defs₀ (F := F)) 𝒱₀ (c : Thread nD τ) none) Set.univ (k0_part6 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v132 v147 v150 v168 v170 cst_104) Q := by
  rw [k0_part6_eq_skeleton]; unfold k0_part6_skel
  simp only [Prog.pure_eq_ret]
  rw [wp_ret]; exact fupd_intro

theorem part7 (c : Dev nD) (v90 : IVec S1024x1024 1) (v132 : FVec F S1024x1024 .bf16) (v147 : FVec F S1024x8x128 .bf16) (v150 : FVec F S1024x8x128 .bf16) (v219 : FVec F S1024x128 .bf16) {Q : _ → sProp 𝕄} :
    Q ⟨k0_pay20 v90 v147 v150 v219, k0_pay21 v90 v132 v147 v150, k0_pay23 v90 v132 v147 v150, k0_pay24 v90 v132 v147⟩ ⊢ wp frame (wpE (defs₀ (F := F)) 𝒱₀ (c : Thread nD τ) none) Set.univ (k0_part7 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v132 v147 v150 v219) Q := by
  rw [k0_part7_eq_skeleton]; unfold k0_part7_skel
  simp only [Prog.pure_eq_ret]
  rw [wp_ret]; exact fupd_intro

theorem part12 (c : Dev nD) (v90 : IVec S1024x1024 1) (v347 : FVec F S1024x1024 .bf16) (v362 : FVec F S1024x8x128 .bf16) (v365 : FVec F S1024x8x128 .bf16) (v390 : FVec F S1024x1024 .bf16) (v393 : FVec F S1024x1 .f32) {Q : _ → sProp 𝕄} :
    Q ⟨k0_pay32 v365 v390 v393, k0_pay33 v90 v347 v362 v365, k0_pay34 v90 v347 v362 v365, k0_pay35 v90 v347 v362, k0_pay36 v90 v347 v362⟩ ⊢ wp frame (wpE (defs₀ (F := F)) 𝒱₀ (c : Thread nD τ) none) Set.univ (k0_part12 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v347 v362 v365 v390 v393) Q := by
  rw [k0_part12_eq_skeleton]; unfold k0_part12_skel
  simp only [Prog.pure_eq_ret]
  rw [wp_ret]; exact fupd_intro

theorem part13 (c : Dev nD) (v90 : IVec S1024x1024 1) (v347 : FVec F S1024x1024 .bf16) (v362 : FVec F S1024x8x128 .bf16) (v365 : FVec F S1024x8x128 .bf16) (v441 : FVec F S1024x1024 .bf16) (v442 : FVec F S1024x1024 .f32) {Q : _ → sProp 𝕄} :
    Q ⟨k0_pay37 v365 v441 v442, k0_pay38 v90 v347 v362 v365, k0_pay39 v90 v347 v362 v365, k0_pay40 v347 v362, Scalar.ofBits .bf16 0x0000#16⟩ ⊢ wp frame (wpE (defs₀ (F := F)) 𝒱₀ (c : Thread nD τ) none) Set.univ (k0_part13 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v347 v362 v365 v441 v442) Q := by
  rw [k0_part13_eq_skeleton]; unfold k0_part13_skel
  simp only [Prog.pure_eq_ret]
  rw [wp_ret]; exact fupd_intro

theorem part18 (c : Dev nD) (v90 : IVec S1024x1024 1) (v570 : FVec F S1024x1024 .bf16) (v585 : FVec F S1024x8x128 .bf16) (v588 : FVec F S1024x8x128 .bf16) (v613 : FVec F S1024x1024 .bf16) {Q : _ → sProp 𝕄} :
    Q ⟨k0_pay48 v588 v613, k0_pay49 v90 v570 v585 v588, k0_pay50 v90 v570 v585 v588, k0_pay51 v570 v585⟩ ⊢ wp frame (wpE (defs₀ (F := F)) 𝒱₀ (c : Thread nD τ) none) Set.univ (k0_part18 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v570 v585 v588 v613) Q := by
  rw [k0_part18_eq_skeleton]; unfold k0_part18_skel
  simp only [Prog.pure_eq_ret]
  rw [wp_ret]; exact fupd_intro

theorem part19 (c : Dev nD) (v90 : IVec S1024x1024 1) (v570 : FVec F S1024x1024 .bf16) (v585 : FVec F S1024x8x128 .bf16) (v588 : FVec F S1024x8x128 .bf16) (v662 : FVec F S1024x1024 .bf16) {Q : _ → sProp 𝕄} :
    Q ⟨k0_pay52 v90 v588 v662, k0_pay53 v90 v570 v585 v588, k0_pay54 v90 v570 v585 v588, k0_pay55 v570, k0_pay56 v585, zf⟩ ⊢ wp frame (wpE (defs₀ (F := F)) 𝒱₀ (c : Thread nD τ) none) Set.univ (k0_part19 xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9 v90 v570 v585 v588 v662) Q := by
  rw [k0_part19_eq_skeleton]; unfold k0_part19_skel
  simp only [Prog.pure_eq_ret]
  rw [wp_ret]; exact fupd_intro

/-! ## The slots -/

theorem mem_slot {off size : Fin 3 → ℕ} {inb} {i : S4x1024x1024.Idx} : i ∈ (Rect.unit (s := S4x1024x1024) off size inb).set ↔
    (off 0 ≤ (i 0 : ℕ) ∧ (i 0 : ℕ) < off 0 + size 0) ∧ (off 1 ≤ (i 1 : ℕ) ∧ (i 1 : ℕ) < off 1 + size 1) ∧ (off 2 ≤ (i 2 : ℕ) ∧ (i 2 : ℕ) < off 2 + size 2) := by
  rw [Rect.mem_set_unit, Fin.forall_fin_succ, Fin.forall_fin_two]; rfl
theorem mem_R (b : ℕ) (n w : ℕ) (x : ℕ) {sz : Fin 3 → ℕ} (hz : sz = ![1, 1024, w]) {inb} {i : S4x1024x1024.Idx} :
    i ∈ (Rect.unit (s := S4x1024x1024) ![n, 0, x] sz inb).set ↔ (i 0 : ℕ) = n ∧ x ≤ (i 2 : ℕ) ∧ (i 2 : ℕ) < x + w := by
  have h1 : (i 1 : ℕ) < 1024 := (i 1).isLt
  subst hz; rw [mem_slot]
  simp only [Matrix.cons_val_zero, Matrix.cons_val_one, Matrix.cons_val]
  omega

def slotP (ℓ : Loc nD τ sig) (S : Finset (Idx ℓ)) (q : PosShare TreeShare) (f : Buf (Elt F) ℓ) : sProp 𝕄 := (ℓ ↦[S]{q} f)

theorem mem0 {i : S4x1024x1024.Idx} : i ∈ R0.set ↔ (i 0 : ℕ) = 0 := by
  rw [mem_R 0 0 1024 0 rfl]; have h2 : (i 2 : ℕ) < 1024 := (i 2).isLt; omega
theorem mem1 {i : S4x1024x1024.Idx} : i ∈ R1.set ↔ (i 0 : ℕ) = 1 := by
  rw [mem_R 0 1 1024 0 rfl]; have h2 : (i 2 : ℕ) < 1024 := (i 2).isLt; omega
theorem mem2 {i : S4x1024x1024.Idx} : i ∈ R2.set ↔ (i 0 : ℕ) = 2 := by
  rw [mem_R 0 2 1024 0 rfl]; have h2 : (i 2 : ℕ) < 1024 := (i 2).isLt; omega
theorem mem3 {i : S4x1024x1024.Idx} : i ∈ R3.set ↔ (i 0 : ℕ) = 3 := by
  rw [mem_R 0 3 1024 0 rfl]; have h2 : (i 2 : ℕ) < 1024 := (i 2).isLt; omega
theorem mem2l {i : S4x1024x1024.Idx} : i ∈ R2l.set ↔ (i 0 : ℕ) = 2 ∧ (i 2 : ℕ) < 512 := by
  rw [mem_R 0 2 512 0 rfl]; omega
theorem mem2r {i : S4x1024x1024.Idx} : i ∈ R2r.set ↔ (i 0 : ℕ) = 2 ∧ 512 ≤ (i 2 : ℕ) := by
  rw [mem_R 0 2 512 512 rfl]; have h2 : (i 2 : ℕ) < 1024 := (i 2).isLt; omega
theorem mem3l {i : S4x1024x1024.Idx} : i ∈ R3l.set ↔ (i 0 : ℕ) = 3 ∧ (i 2 : ℕ) < 512 := by
  rw [mem_R 0 3 512 0 rfl]; omega
theorem mem3r {i : S4x1024x1024.Idx} : i ∈ R3r.set ↔ (i 0 : ℕ) = 3 ∧ 512 ≤ (i 2 : ℕ) := by
  rw [mem_R 0 3 512 512 rfl]; have h2 : (i 2 : ℕ) < 1024 := (i 2).isLt; omega

theorem halves2 : R2l.set ∪ R2r.set = R2.set := by
  ext i; rw [Finset.mem_union, mem2l, mem2r, mem2]; omega
theorem halves3 : R3l.set ∪ R3r.set = R3.set := by
  ext i; rw [Finset.mem_union, mem3l, mem3r, mem3]; omega
theorem disj2 : Disjoint R2l.set R2r.set := by
  rw [Finset.disjoint_left]; intro i; rw [mem2l, mem2r]; omega
theorem disj3 : Disjoint R3l.set R3r.set := by
  rw [Finset.disjoint_left]; intro i; rw [mem3l, mem3r]; omega
theorem slots_all : R0.set ∪ (R1.set ∪ (R2.set ∪ R3.set)) = Finset.univ := by
  ext i; simp only [Finset.mem_union, mem0, mem1, mem2, mem3, Finset.mem_univ, iff_true]; have h0 : (i 0 : ℕ) < 4 := (i 0).isLt; omega
theorem disj_23 : Disjoint R2.set R3.set := by
  rw [Finset.disjoint_left]; intro i; rw [mem2, mem3]; omega
theorem disj_123 : Disjoint R1.set (R2.set ∪ R3.set) := by
  rw [Finset.disjoint_left]; intro i; simp only [Finset.mem_union, mem1, mem2, mem3]; omega
theorem disj_0123 : Disjoint R0.set (R1.set ∪ (R2.set ∪ R3.set)) := by
  rw [Finset.disjoint_left]; intro i; simp only [Finset.mem_union, mem0, mem1, mem2, mem3]; omega

theorem mem_RK {t : ℕ} {inb} {i : S2x1024x8x128.Idx} : i ∈ (Rect.unit (s := S2x1024x8x128) ![t, 0, 0, 0] S1x1024x8x128.size inb).set ↔ (i 0 : ℕ) = t := by
  have h1 : (i 1 : ℕ) < 1024 := (i 1).isLt
  have h2 : (i 2 : ℕ) < 8 := (i 2).isLt
  have h3 : (i 3 : ℕ) < 128 := (i 3).isLt
  rw [Rect.mem_set_unit, Fin.forall_fin_succ, Fin.forall_fin_succ, Fin.forall_fin_two]
  simp only [S1x1024x8x128, Matrix.cons_val_zero, Matrix.cons_val_one, Matrix.cons_val, Matrix.cons_val_succ, Fin.succ_zero_eq_one, Fin.succ_one_eq_two]
  show (t ≤ (i 0 : ℕ) ∧ (i 0 : ℕ) < t + 1) ∧ (0 ≤ (i 1 : ℕ) ∧ (i 1 : ℕ) < 0 + 1024) ∧ (0 ≤ (i 2 : ℕ) ∧ (i 2 : ℕ) < 0 + 8) ∧ (0 ≤ (i 3 : ℕ) ∧ (i 3 : ℕ) < 0 + 128) ↔ _
  omega
theorem kv_all : RK0.set ∪ RK1.set = Finset.univ := by
  ext i; simp only [Finset.mem_union, mem_RK, Finset.mem_univ, iff_true]; have h0 : (i 0 : ℕ) < 2 := (i 0).isLt; omega
theorem kv_disj : Disjoint RK0.set RK1.set := by
  rw [Finset.disjoint_left]; intro i; simp only [mem_RK]; omega

/-- A buffer of four slots held whole is its slots held one by one. -/
theorem q_slots (c : Dev nD) (f : Buf (Elt F) ((c : Thread nD τ).loc cc0_scratch0)) :
    (((c : Thread nD τ).loc cc0_scratch0) ↦{fullShare} f : sProp 𝕄) ⊣⊢ iprop((((c : Thread nD τ).loc cc0_scratch0) ↦[R0.set]{fullShare} f)
      ∗ (((c : Thread nD τ).loc cc0_scratch0) ↦[R1.set]{fullShare} f) ∗ (((c : Thread nD τ).loc cc0_scratch0) ↦[R2.set]{fullShare} f)
      ∗ (((c : Thread nD τ).loc cc0_scratch0) ↦[R3.set]{fullShare} f)) := by
  rw [← show R0.set ∪ (R1.set ∪ (R2.set ∪ R3.set)) = (Finset.univ : Finset (Idx ((c : Thread nD τ).loc cc0_scratch0))) from slots_all]
  exact (pointsTo_union disj_0123).trans ((sep_congr_right ((pointsTo_union disj_123).trans (sep_congr_right (pointsTo_union disj_23)))))
theorem o_slots (c : Dev nD) (f : Buf (Elt F) ((c : Thread nD τ).loc cc0_scratch1)) :
    (((c : Thread nD τ).loc cc0_scratch1) ↦{fullShare} f : sProp 𝕄) ⊣⊢ iprop((((c : Thread nD τ).loc cc0_scratch1) ↦[R0.set]{fullShare} f)
      ∗ (((c : Thread nD τ).loc cc0_scratch1) ↦[R1.set]{fullShare} f) ∗ (((c : Thread nD τ).loc cc0_scratch1) ↦[R2.set]{fullShare} f)
      ∗ (((c : Thread nD τ).loc cc0_scratch1) ↦[R3.set]{fullShare} f)) := by
  rw [← show R0.set ∪ (R1.set ∪ (R2.set ∪ R3.set)) = (Finset.univ : Finset (Idx ((c : Thread nD τ).loc cc0_scratch1))) from slots_all]
  exact (pointsTo_union disj_0123).trans ((sep_congr_right ((pointsTo_union disj_123).trans (sep_congr_right (pointsTo_union disj_23)))))
theorem kv_slots (c : Dev nD) (f : Buf (Elt F) ((c : Thread nD τ).loc cc0_scratch2)) :
    (((c : Thread nD τ).loc cc0_scratch2) ↦{fullShare} f : sProp 𝕄) ⊣⊢ iprop((((c : Thread nD τ).loc cc0_scratch2) ↦[RK0.set]{fullShare} f)
      ∗ (((c : Thread nD τ).loc cc0_scratch2) ↦[RK1.set]{fullShare} f)) := by
  rw [← show RK0.set ∪ RK1.set = (Finset.univ : Finset (Idx ((c : Thread nD τ).loc cc0_scratch2))) from kv_all]
  exact pointsTo_union kv_disj
theorem q_half2 (c : Dev nD) (q : PosShare TreeShare) : qP m ρ c R2.set q ⊣⊢ iprop(qP m ρ c R2l.set q ∗ qP m ρ c R2r.set q) := by
  unfold qP; rw [← halves2]; exact pointsTo_union disj2
theorem q_half3 (c : Dev nD) (q : PosShare TreeShare) : qP m ρ c R3.set q ⊣⊢ iprop(qP m ρ c R3l.set q ∗ qP m ρ c R3r.set q) := by
  unfold qP; rw [← halves3]; exact pointsTo_union disj3

/-- The buffers as the kernel takes them: the own slot of each, and the slots that are landed in. -/
theorem q_take (c : Dev nD) : iprop(∃ f : Buf (Elt F) ((c : Thread nD τ).loc cc0_scratch0), ((c : Thread nD τ).loc cc0_scratch0) ↦{fullShare} f) ⊢ iprop(qE c R0.set ∗ qSl c) := by
  unfold qE qSl qE
  iintro ⟨%f, H⟩
  ihave H := (q_slots c f).1 $$ H
  icases H with ⟨H0, H1, H2, H3⟩
  ihave H3 := (Entails.of_eq (congrArg (fun S => (((c : Thread nD τ).loc cc0_scratch0) ↦[S]{fullShare} f : sProp 𝕄)) halves3).symm) $$ H3
  ihave H3 := (pointsTo_union disj3).1 $$ H3
  icases H3 with ⟨H3l, H3r⟩
  isplitl [H0]; · iexists f; iexact H0
  isplitl [H1]; · iexists f; iexact H1
  isplitl [H2]; · iexists f; iexact H2
  isplitl [H3l]; · iexists f; iexact H3l
  iexists f; iexact H3r
theorem o_take (c : Dev nD) : iprop(∃ f : Buf (Elt F) ((c : Thread nD τ).loc cc0_scratch1), ((c : Thread nD τ).loc cc0_scratch1) ↦{fullShare} f) ⊢ iprop(oE c R0.set ∗ oSl c) := by
  unfold oE oSl oE
  iintro ⟨%f, H⟩
  ihave H := (o_slots c f).1 $$ H
  icases H with ⟨H0, H1, H2, H3⟩
  isplitl [H0]; · iexists f; iexact H0
  isplitl [H1]; · iexists f; iexact H1
  isplitl [H2]; · iexists f; iexact H2
  iexists f; iexact H3
theorem kv_take (c : Dev nD) : iprop(∃ f : Buf (Elt F) ((c : Thread nD τ).loc cc0_scratch2), ((c : Thread nD τ).loc cc0_scratch2) ↦{fullShare} f) ⊢ iprop(kvE c RK0.set ∗ kvE c RK1.set) := by
  unfold kvE
  iintro ⟨%f, H⟩
  ihave H := (kv_slots c f).1 $$ H
  icases H with ⟨H0, H1⟩
  isplitl [H0]; · iexists f; iexact H0
  iexists f; iexact H1

end Cert.Ring

end
-- ==== Proof.Body.lean ====
/-
The kernel's body, from the barrier to the last wait.
-/
module

public import proofs.«01_k».proof.Proof.Stages

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 15 → ℕ)

def cellsZ (c : Dev nD) : sProp 𝕄 := iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0)

/-- What the body's run starts from, beside the records: the barrier's tokens, the transfers' tokens, the waits, what is owed, the buffers. -/
def bodyStart (c : Dev nD) : sProp 𝕄 :=
  iprop(barG c ∗ (sg c 0 ∗ sg c 1 ∗ sg c 2 ∗ sg c 3 ∗ sg c 4 ∗ sg c 5 ∗ sg c 6)
    ∗ (wt c 8 ∗ wt c 9 ∗ wt c 10 ∗ wt c 11 ∗ wt c 12 ∗ wt c 13 ∗ wt c 14)
    ∗ oW c (debt c dueL) ∗ kP m c ∗ vP m c ∗ semVal ((c : Thread nD τ), .dma (ds 24)) 0 ∗ semVal ((c : Thread nD τ), .dma (ds 25)) 0
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ bP c cc0_stg0_0 (xB m ρ c) ∗ bP c cc0_stg1_0 (wqB m ρ c) ∗ bP c cc0_stg2_0 (woB m ρ c))

def bodyEnd (c : Dev nD) : sProp 𝕄 :=
  iprop(oW c (debt c []) ∗ bP c cc0_stg0_0 (xB m ρ c) ∗ bP c cc0_stg1_0 (wqB m ρ c) ∗ bP c cc0_stg2_0 (woB m ρ c) ∗ bP c cc0_stg3_0 (outV m ρ c)
    ∗ kP m c ∗ vP m c ∗ semVal ((c : Thread nD τ), .dma (ds 24)) 0 ∗ semVal ((c : Thread nD τ), .dma (ds 25)) 0
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ cellsZ c)

set_option maxHeartbeats 4000000 in
theorem body_run (c : Dev nD) (X : (cc0_stg3_0 : Ref sig .tc).ty.Contents (Elt F)) {Q : PUnit → sProp 𝕄} :
    iprop(records m ρ K ∗ levAts L lv ∗ bodyStart m ρ c ∗ bP c cc0_stg3_0 X ∗ (bodyEnd m ρ c -∗ Q ⟨⟩))
      ⊢ wp frame (wpE (defs₀ (F := F)) 𝒱₀ (c : Thread nD τ) none) Set.univ (cc0__body xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9) Q := by
  rw [cc0__body_eq_skeleton]; unfold cc0__body_skel
  rw [k0_part28_eq_skeleton]; unfold k0_part28_skel
  simp only [wp_bind]
  unfold bodyStart
  iintro ⟨#HR, #Hlev, ⟨Hbar, ⟨Hg0, Hg1, Hg2, Hg3, Hg4, Hg5, Hg6⟩, ⟨Hw8, Hw9, Hw10, Hw11, Hw12, Hw13, Hw14⟩, HO, HkP, HvP, Hz0, Hz1, Hq, Ho, Hd, Hx, Hwq, Hwo⟩, Hout, Hk⟩
  ihave Hq := (q_take c) $$ Hq
  ihave Ho := (o_take c) $$ Ho
  ihave Hd := (kv_take c) $$ Hd
  icases Hq with ⟨Hq0, HqS⟩
  icases Ho with ⟨Ho0, HoS⟩
  icases Hd with ⟨Hd0, Hd1⟩
  iapply (part1 (m := m) (ρ := ρ) (K := K) (c := c))
  isplitr; · iexact HR
  isplitr; · iexact Hlev
  isplitl [Hbar]; · iexact Hbar
  isplitl [HO]; · iexact HO
  isplitl [HqS]; · iexact HqS
  isplitl [HoS]; · iexact HoS
  isplitl [Hq0]; · iexact Hq0
  isplitl [Ho0]; · iexact Ho0
  isplitl [Hwq]; · iexact Hwq
  isplitl [Hwo]; · iexact Hwo
  iintro ⟨HO, Hzb, HqN, HoP, Hq0, Ho0, Hwq, Hwo⟩
  try dsimp only
  ihave HO := (Entails.of_eq (show oW c (debt c (dueL.drop 2)) = oW c (debt c [(true, 8), (false, 12), (true, 9), (false, 13), (true, 10), (true, 11), (false, 14)]) from rfl)) $$ HO
  iapply (part2 (c := c))
  try dsimp only
  unfold qSl oSl
  icases HqN with ⟨HqN1, HqN2, HqN3l, HqN3r⟩
  icases HoP with ⟨HoP1, HoP2, HoP3⟩
  ihave Hq0 := (qP_cut m ρ c R0.set) $$ Hq0
  icases Hq0 with ⟨Hq0l, Hq0r⟩
  ihave Ho0 := (oP_cut m ρ c R0.set) $$ Ho0
  icases Ho0 with ⟨Ho0l, Ho0r⟩
  iapply (part3 (m := m) (ρ := ρ) (K := K) (c := c) (X := xB m ρ c) (l := [(false, 12), (true, 9), (false, 13), (true, 10), (true, 11), (false, 14)]))
  isplitr; · iexact HR
  isplitl [Hx]; · iexact Hx
  isplitl [Hq0r]; · iexact Hq0r
  isplitl [HqN1]; · iexact HqN1
  isplitl [Hg0]; · iexact Hg0
  isplitl [HO]; · iexact HO
  iintro ⟨Hx, Hw1, HO⟩
  try dsimp only
  iapply (part4 (m := m) (ρ := ρ) (K := K) (c := c) (l := [(true, 9), (false, 13), (true, 10), (true, 11), (false, 14)]))
  isplitr; · iexact HR
  isplitl [Ho0r]; · iexact Ho0r
  isplitl [HoP1]; · iexact HoP1
  isplitl [Hg4]; · iexact Hg4
  isplitl [HO]; · iexact HO
  isplitl [HkP]; · iexact HkP
  isplitl [HvP]; · iexact HvP
  isplitl [Hd0]; · iexact Hd0
  isplitl [Hd1]; · iexact Hd1
  isplitl [Hz0]; · iexact Hz0
  isplitl [Hz1]; · iexact Hz1
  isplitl [Hq0l]; · iexact Hq0l
  iintro ⟨Hw5, HO, Hf0, Hf1, Hq0l⟩
  try dsimp only
  iapply (part5 (m := m) (c := c) (l := [(true, 9), (false, 13), (true, 10), (true, 11), (false, 14)]) (hl := (by decide)))
  isplitr; · iexact Hlev
  isplitl [Hf0]; · iexact Hf0
  isplitl [Hf1]; · iexact Hf1
  isplitl [HO]; · iexact HO
  iintro ⟨HO, HkP, HvP, Hd0, Hd1, Hz0, Hz1⟩
  try dsimp only
  iapply (part6 (c := c))
  try dsimp only
  iapply (part7 (c := c))
  try dsimp only
  iapply (part8 (m := m) (ρ := ρ) (K := K) (c := c) (l := [(true, 9), (false, 13), (true, 10), (true, 11), (false, 14)]) (hl := (by decide)))
  isplitr; · iexact HR
  isplitr; · iexact Hlev
  isplitl [Ho0l]; · iexact Ho0l
  isplitl [Hout]; · iexact Hout
  isplitl [Hw8]; · iexact Hw8
  isplitl [HO]; · iexact HO
  iintro ⟨Ho0l, Hout, Hq1, Hz8, HO⟩
  try dsimp only
  ihave Hq1 := (qP_cut m ρ c R1.set) $$ Hq1
  icases Hq1 with ⟨Hq1l, Hq1r⟩
  iapply (part9 (m := m) (ρ := ρ) (K := K) (c := c) (l := [(true, 10), (true, 11), (false, 14)]) (hl := (by decide)))
  isplitr; · iexact HR
  isplitr; · iexact Hlev
  isplitl [Hw12]; · iexact Hw12
  isplitl [HO]; · iexact HO
  isplitl [Hq1r]; · iexact Hq1r
  isplitl [HqN2]; · iexact HqN2
  isplitl [Hg1]; · iexact Hg1
  isplitl [HoP2]; · iexact HoP2
  isplitl [Hg5]; · iexact Hg5
  iintro ⟨Hz12, Ho1l, Hw2, Hw6, HO⟩
  try dsimp only
  ihave Hd0 := (kvP_E m c _ RK0.set) $$ Hd0
  ihave Hd1 := (kvP_E m c _ RK1.set) $$ Hd1
  iapply (part10 (m := m) (ρ := ρ) (c := c) (l := [(true, 10), (true, 11), (false, 14)]) (hl := (by decide)))
  isplitr; · iexact Hlev
  isplitl [HkP]; · iexact HkP
  isplitl [HvP]; · iexact HvP
  isplitl [Hd0]; · iexact Hd0
  isplitl [Hd1]; · iexact Hd1
  isplitl [Hz0]; · iexact Hz0
  isplitl [Hz1]; · iexact Hz1
  isplitl [Hq1l]; · iexact Hq1l
  isplitl [HO]; · iexact HO
  iintro ⟨HkP, Hd0, Hz0, Hf1, Hq1l, HO⟩
  try dsimp only
  iapply (part11 (m := m) (c := c) (l := [(true, 10), (true, 11), (false, 14)]) (hl := (by decide)))
  isplitr; · iexact Hlev
  isplitl [Hf1]; · iexact Hf1
  isplitl [HO]; · iexact HO
  isplitl [Hd0]; · iexact Hd0
  iintro ⟨HvP, Hd0, Hd1, Hz1, HO⟩
  try dsimp only
  iapply (part12 (c := c))
  try dsimp only
  iapply (part13 (c := c))
  try dsimp only
  iapply (part14 (m := m) (ρ := ρ) (K := K) (c := c) (l := [(true, 10), (true, 11), (false, 14)]) (hl := (by decide)))
  isplitr; · iexact HR
  isplitr; · iexact Hlev
  isplitl [Hw9]; · iexact Hw9
  isplitl [Hw13]; · iexact Hw13
  isplitl [HO]; · iexact HO
  iintro ⟨Hq2, Hz9, Ho2, Hz13, HO⟩
  try dsimp only
  ihave Hq2 := (qP_cut m ρ c R2.set) $$ Hq2
  icases Hq2 with ⟨Hq2l, Hq2r⟩
  ihave Ho2 := (oP_cut m ρ c R2.set) $$ Ho2
  icases Ho2 with ⟨Ho2l, Ho2r⟩
  ihave Hq2r := ((q_half2 m ρ c _).1) $$ Hq2r
  icases Hq2r with ⟨Hq2a, Hq2b⟩
  iapply (part15 (m := m) (ρ := ρ) (K := K) (c := c) (l := []))
  isplitr; · iexact HR
  isplitl [HO]; · iexact HO
  isplitl [Hq2a]; · iexact Hq2a
  isplitl [Hq2b]; · iexact Hq2b
  isplitl [HqN3l]; · iexact HqN3l
  isplitl [HqN3r]; · iexact HqN3r
  isplitl [Hg2]; · iexact Hg2
  isplitl [Hg3]; · iexact Hg3
  isplitl [Ho2r]; · iexact Ho2r
  isplitl [HoP3]; · iexact HoP3
  isplitl [Hg6]; · iexact Hg6
  isplitl [Hout]; · iexact Hout
  iintro ⟨Hw3, Hw4, Hw7, Hout, HO⟩
  try dsimp only
  ihave Hd0 := (kvP_E m c _ RK0.set) $$ Hd0
  ihave Hd1 := (kvP_E m c _ RK1.set) $$ Hd1
  iapply (part16 (m := m) (ρ := ρ) (c := c) (l := []) (hl := (by decide)))
  isplitr; · iexact Hlev
  isplitl [HkP]; · iexact HkP
  isplitl [HvP]; · iexact HvP
  isplitl [Hd0]; · iexact Hd0
  isplitl [Hd1]; · iexact Hd1
  isplitl [Hz0]; · iexact Hz0
  isplitl [Hz1]; · iexact Hz1
  isplitl [Hq2l]; · iexact Hq2l
  isplitl [HO]; · iexact HO
  iintro ⟨HkP, Hd0, Hz0, Hf1, Hq2l, HO⟩
  try dsimp only
  iapply (part17 (m := m) (c := c) (l := []) (hl := (by decide)))
  isplitr; · iexact Hlev
  isplitl [Hf1]; · iexact Hf1
  isplitl [HO]; · iexact HO
  isplitl [Hd0]; · iexact Hd0
  iintro ⟨HvP, Hd0, Hd1, Hz1, HO⟩
  try dsimp only
  iapply (part18 (c := c))
  try dsimp only
  iapply (part19 (c := c))
  try dsimp only
  ihave Hd0 := (kvP_E m c _ RK0.set) $$ Hd0
  ihave Hd1 := (kvP_E m c _ RK1.set) $$ Hd1
  iapply (part20 (m := m) (ρ := ρ) (c := c))
  isplitl [Ho2l]; · iexact Ho2l
  isplitl [Hout]; · iexact Hout
  isplitl [HkP]; · iexact HkP
  isplitl [Hd0]; · iexact Hd0
  isplitl [Hz0]; · iexact Hz0
  iintro ⟨Ho2l, Hout, Hf0⟩
  try dsimp only
  iapply (part21 (m := m) (c := c) (l := []) (hl := (by decide)))
  isplitr; · iexact Hlev
  isplitl [Hf0]; · iexact Hf0
  isplitl [HvP]; · iexact HvP
  isplitl [Hd1]; · iexact Hd1
  isplitl [Hz1]; · iexact Hz1
  isplitl [HO]; · iexact HO
  iintro ⟨HkP, HvP, Hd0, Hd1, Hz0, Hz1, HO⟩
  try dsimp only
  iapply (part22 (m := m) (ρ := ρ) (K := K) (c := c) (l := []) (hl := (by decide)))
  isplitr; · iexact HR
  isplitr; · iexact Hlev
  isplitl [Hw10]; · iexact Hw10
  isplitl [HO]; · iexact HO
  iintro ⟨Hq3l, Hz10, HO⟩
  try dsimp only
  iapply (part23 (m := m) (ρ := ρ) (c := c))
  isplitl [Hout]; · iexact Hout
  isplitl [Ho1l]; · iexact Ho1l
  iintro ⟨Hout, Ho1l⟩
  try dsimp only
  iapply (part24 (m := m) (ρ := ρ) (K := K) (c := c) (l := []) (hl := (by decide)))
  isplitr; · iexact HR
  isplitr; · iexact Hlev
  isplitl [Hw11]; · iexact Hw11
  isplitl [HO]; · iexact HO
  iintro ⟨Hq3r, Hz11, HO⟩
  try dsimp only
  iapply (part25 (m := m) (ρ := ρ) (c := c))
  isplitl [Hout]; · iexact Hout
  isplitl [Ho1l]; · iexact Ho1l
  iintro ⟨Hout, Ho1l⟩
  try dsimp only
  iapply (part26 (m := m) (ρ := ρ) (K := K) (c := c))
  isplitr; · iexact HR
  isplitr; · iexact Hlev
  isplitl [Hout]; · iexact Hout
  isplitl [Hw14]; · iexact Hw14
  isplitl [Hw1]; · iexact Hw1
  isplitl [HO]; · iexact HO
  iintro ⟨Hout, Ho3, Hz14, Hq0r, Hy1, HO⟩
  try dsimp only
  iapply (part27 (m := m) (ρ := ρ) (K := K) (c := c))
  isplitr; · iexact HR
  isplitr; · iexact Hlev
  isplitl [Hw2]; · iexact Hw2
  isplitl [Hw5]; · iexact Hw5
  isplitl [Hw6]; · iexact Hw6
  isplitl [HO]; · iexact HO
  iintro ⟨Hq1r, Hy2, Ho0r, Hy5, Ho1r, Hy6, HO⟩
  try dsimp only
  simp only [Prog.lift, Prog.bind_op, Prog.bind_ret, Prog.pure_eq_ret, Prog.bind_assoc]
  iapply (await m ρ K c 7 (by decide) (P := oP m ρ c R2.set fullShare.right) rfl (sem := s4 cc0_scratch5 2) rfl (dst := sq oM 2) rfl [] (by decide)) $$ [Hw7 HO]
  · isplitr; · iexact HR
    isplitr; · iexact Hlev
    isplitl [Hw7]; · iexact Hw7
    iexact HO
  iintro ⟨Ho2r, Hy7, HO⟩
  rw [wp_ret]; imodintro
  iapply (await m ρ K c 3 (by decide) (P := qP m ρ c R2l.set fullShare.right) rfl (sem := s2 cc0_scratch7 0) rfl (dst := q2l) rfl [] (by decide)) $$ [Hw3 HO]
  · isplitr; · iexact HR
    isplitr; · iexact Hlev
    isplitl [Hw3]; · iexact Hw3
    iexact HO
  iintro ⟨Hq2a, Hy3, HO⟩
  rw [wp_ret]; imodintro
  rw [wp_ret]; imodintro
  iapply (await m ρ K c 4 (by decide) (P := qP m ρ c R2r.set fullShare.right) rfl (sem := s2 cc0_scratch7 1) rfl (dst := q2r) rfl [] (by decide)) $$ [Hw4 HO]
  · isplitr; · iexact HR
    isplitr; · iexact Hlev
    isplitl [Hw4]; · iexact Hw4
    iexact HO
  iintro ⟨Hq2b, Hy4, HO⟩
  rw [wp_ret]; imodintro
  rw [wp_ret]; imodintro
  iapply Hk
  ihave Hq2r := (q_half2 m ρ c _).2 $$ [Hq2a Hq2b]
  · isplitl [Hq2a]; · iexact Hq2a
    iexact Hq2b
  ihave Hq3 := (q_half3 m ρ c _).2 $$ [Hq3l Hq3r]
  · isplitl [Hq3l]; · iexact Hq3l
    iexact Hq3r
  ihave Hq0 := (qP_glue m ρ c R0.set) $$ [Hq0l Hq0r]
  · isplitl [Hq0l]; · iexact Hq0l
    iexact Hq0r
  ihave Ho0 := (oP_glue m ρ c R0.set) $$ [Ho0l Ho0r]
  · isplitl [Ho0l]; · iexact Ho0l
    iexact Ho0r
  ihave Hq1 := (qP_glue m ρ c R1.set) $$ [Hq1l Hq1r]
  · isplitl [Hq1l]; · iexact Hq1l
    iexact Hq1r
  ihave Ho1 := (oP_glue m ρ c R1.set) $$ [Ho1l Ho1r]
  · isplitl [Ho1l]; · iexact Ho1l
    iexact Ho1r
  ihave Hq2 := (qP_glue m ρ c R2.set) $$ [Hq2l Hq2r]
  · isplitl [Hq2l]; · iexact Hq2l
    iexact Hq2r
  ihave Ho2 := (oP_glue m ρ c R2.set) $$ [Ho2l Ho2r]
  · isplitl [Ho2l]; · iexact Ho2l
    iexact Ho2r
  unfold bodyEnd cellsZ
  isplitl [HO]; · iexact HO
  isplitl [Hx]; · iexact Hx
  isplitl [Hwq]; · iexact Hwq
  isplitl [Hwo]; · iexact Hwo
  isplitl [Hout]; · simp only [outV, ctx1, out4, st4, out3, st3, out2, st2, out0, st0, msk, xsv, rdQ0, rdQ1, rdQ2, rdQ3l, rdQ3r, rdK, rdV, rdO0, rdO1l, rdO1r, rdO2, rdO3]; iexact Hout
  isplitl [HkP]; · iexact HkP
  isplitl [HvP]; · iexact HvP
  isplitl [Hz0]; · iexact Hz0
  isplitl [Hz1]; · iexact Hz1
  isplitl [Hq0 Hq1 Hq2 Hq3]
  · unfold qP
    iexists (WQ m ρ c)
    iapply (q_slots c (WQ m ρ c)).2
    isplitl [Hq0]; · iexact Hq0
    isplitl [Hq1]; · iexact Hq1
    isplitl [Hq2]; · iexact Hq2
    iexact Hq3
  isplitl [Ho0 Ho1 Ho2 Ho3]
  · unfold oP
    iexists (WO m ρ c)
    iapply (o_slots c (WO m ρ c)).2
    isplitl [Ho0]; · iexact Ho0
    isplitl [Ho1]; · iexact Ho1
    isplitl [Ho2]; · iexact Ho2
    iexact Ho3
  isplitl [Hd0 Hd1]
  · unfold kvP
    iexists (KV m c (fwd c 1))
    iapply (kv_slots c (KV m c (fwd c 1))).2
    isplitl [Hd0]; · iexact Hd0
    iexact Hd1
  isplitl [Hzb]; · iexact Hzb
  isplitl [Hy1]; · iexact Hy1
  isplitl [Hy2]; · iexact Hy2
  isplitl [Hy3]; · iexact Hy3
  isplitl [Hy4]; · iexact Hy4
  isplitl [Hy5]; · iexact Hy5
  isplitl [Hy6]; · iexact Hy6
  isplitl [Hy7]; · iexact Hy7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  iexact Hz14

end Cert.Ring

end
-- ==== Proof.Launch.lean ====
/-
The launch: what each device starts with, how the tokens and the credits of the ring are dealt, the body obligation
from the run of the body, and the run of @main on every device.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts and ends with -/

/-- The send tokens of the seven transfers. -/
def sgs (c : Dev nD) : sProp 𝕄 := iprop(sg c 0 ∗ sg c 1 ∗ sg c 2 ∗ sg c 3 ∗ sg c 4 ∗ sg c 5 ∗ sg c 6)
/-- The waits for the seven arrivals. -/
def wts (c : Dev nD) : sProp 𝕄 := iprop(wt c 8 ∗ wt c 9 ∗ wt c 10 ∗ wt c 11 ∗ wt c 12 ∗ wt c 13 ∗ wt c 14)
/-- The semaphores of the local copies. -/
def cpZ (c : Dev nD) : sProp 𝕄 := iprop(semVal ((c : Thread nD τ), .dma (ds 24)) 0 ∗ semVal ((c : Thread nD τ), .dma (ds 25)) 0)
/-- The semaphores of the ring's arrays that no transfer names. -/
def spareZ (c : Dev nD) : sProp 𝕄 := iprop(semVal ((c : Thread nD τ), .dma (ds 6)) 0 ∗ semVal ((c : Thread nD τ), .dma (ds 7)) 0 ∗ semVal ((c : Thread nD τ), .dma (ds 8)) 0 ∗ semVal ((c : Thread nD τ), .dma (ds 11)) 0 ∗ semVal ((c : Thread nD τ), .dma (ds 15)) 0 ∗ semVal ((c : Thread nD τ), .dma (ds 16)) 0)
/-- The scratch buffers, at any contents. -/
def scr (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

def start (c : Dev nD) : sProp 𝕄 :=
  iprop((∃ K, records m ρ K) ∗ levAts L lv ∗ barG c ∗ sgs c ∗ wts c ∗ kP m c ∗ vP m c ∗ cpZ c ∗ spareZ c)
def Φ₀ (c : Dev nD) : sProp 𝕄 := iprop(start m ρ c ∗ scr c)
def Φ₁ (c : Dev nD) : sProp 𝕄 := iprop(scr c ∗ kP m c ∗ vP m c ∗ cpZ c ∗ spareZ c ∗ cellsZ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m ρ c
    | ⟨1, _⟩ => wqB m ρ c
    | ⟨2, _⟩ => woB m ρ c
    | ⟨3, _⟩ => outV m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-! ## The body obligation -/

omit [FloatOps F] [Named F] in
theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ bP c b f) := by
  unfold owns; simp only [Memref.view_whole, View.read_whole, View.set_whole]; rfl

/-- A staging buffer held at known contents. -/
def at_ (c : Dev nD) (b : Ref sig .tc) (X : b.ty.Contents (Elt F)) : sProp 𝕄 :=
  iprop(∃ f : Buf (Elt F) ((c : Thread nD τ).loc b), ⌜f = X⌝ ∗ bP c b f)

omit [FloatOps F] [Named F] in
theorem at_elim (c : Dev nD) (b : Ref sig .tc) (X Y : b.ty.Contents (Elt F)) (h : X = Y) : at_ c b X ⊢ bP c b Y := by
  unfold at_; iintro ⟨%f, %hf, H⟩; rw [hf, h]; iexact H
omit [FloatOps F] [Named F] in
theorem at_intro (c : Dev nD) (b : Ref sig .tc) (X : b.ty.Contents (Elt F)) : bP c b X ⊢ at_ c b X := by
  unfold at_; iintro H; iexists X; isplitr; · (ipureintro; rfl)
  iexact H

theorem before0 (c : Dev nD) (d) : (dats m ρ 0 c).before (0 : Fin 4) t0_0 d = xB m ρ c := by
  unfold Dat.before; rw [if_pos (fetch0_0 t0_0)]; rfl
theorem before1 (c : Dev nD) (d) : (dats m ρ 0 c).before (1 : Fin 4) t0_0 d = wqB m ρ c := by
  unfold Dat.before; rw [if_pos (fetch0_1 t0_0)]; rfl
theorem before2 (c : Dev nD) (d) : (dats m ρ 0 c).before (2 : Fin 4) t0_0 d = woB m ρ c := by
  unfold Dat.before; rw [if_pos (fetch0_2 t0_0)]; rfl

set_option maxRecDepth 4000 in
def pre0 (c : Dev nD) : sProp 𝕄 :=
  iprop(Φ₀ m ρ c ∗ (dats m ρ 0 c).owesAt () t0_0.castSucc
    ∗ (∃ d, at_ c cc0_stg0_0 ((dats m ρ 0 c).before (0 : Fin 4) t0_0 d))
    ∗ (∃ d, at_ c cc0_stg1_0 ((dats m ρ 0 c).before (1 : Fin 4) t0_0 d))
    ∗ (∃ d, at_ c cc0_stg2_0 ((dats m ρ 0 c).before (2 : Fin 4) t0_0 d))
    ∗ (∃ d, at_ c cc0_stg3_0 ((dats m ρ 0 c).before (3 : Fin 4) t0_0 d)))
def post0 (c : Dev nD) : sProp 𝕄 :=
  iprop(Φ₁ m c ∗ (dats m ρ 0 c).owesAt () t0_0.succ
    ∗ at_ c cc0_stg0_0 (xB m ρ c) ∗ at_ c cc0_stg1_0 (wqB m ρ c) ∗ at_ c cc0_stg2_0 (woB m ρ c) ∗ at_ c cc0_stg3_0 (outV m ρ c))

theorem owes_in (c : Dev nD) : (dats m ρ 0 c).owesAt () t0_0.castSucc ⊢ oW c (debt c dueL) := by
  unfold Dat.owesAt Pipeline.owesWithin oW
  iintro ⟨%W, %hW, HO⟩
  iexists W; iexact HO
theorem owes_out (c : Dev nD) : oW c (debt c []) ⊢ (dats m ρ 0 c).owesAt () t0_0.succ := by
  unfold Dat.owesAt Pipeline.owesWithin oW
  iintro ⟨%W, HO⟩
  iexists W; isplitr; · (ipureintro; exact fun _ _ => Or.inl trivial)
  iexact HO

set_option maxRecDepth 4000 in
theorem body_ob (c : Dev nD) : pre0 m ρ c ⊢ wp frame (wpE (defs₀ (F := F)) 𝒱₀ (c : Thread nD τ) none) Set.univ (cc0__body xM (Memref.isWhole_whole _) wqM (Memref.isWhole_whole _) kM (Memref.isWhole_whole _) vM (Memref.isWhole_whole _) woM (Memref.isWhole_whole _) outM (Memref.isWhole_whole _) qM (Memref.isWhole_whole _) oM (Memref.isWhole_whole _) kvM (Memref.isWhole_whole _) cc0_scratch3 cc0_scratch4 cc0_scratch5 cc0_scratch6 cc0_scratch7 cc0_scratch8 cc0_scratch9) (fun _ => post0 m ρ c) := by
  unfold pre0 Φ₀ start scr sgs wts cpZ spareZ
  iintro ⟨⟨⟨⟨%K, #HR⟩, #Hlev, Hbar, Hsg, Hwt, HkP, HvP, ⟨Hc0, Hc1⟩, Hsp⟩, ⟨Hs0, Hs1, Hs2⟩⟩, HO, ⟨%d0, Hx⟩, ⟨%d1, Hq⟩, ⟨%d2, Ho⟩, ⟨%d3, Hr⟩⟩
  ihave HO := (owes_in m ρ c) $$ HO
  ihave Hx := (at_elim c _ _ _ (before0 m ρ c d0)) $$ Hx
  ihave Hq := (at_elim c _ _ _ (before1 m ρ c d1)) $$ Hq
  ihave Ho := (at_elim c _ _ _ (before2 m ρ c d2)) $$ Ho
  ihave Hr := (at_elim c _ _ _ rfl) $$ Hr
  iapply (body_run m ρ K c ((dats m ρ 0 c).before (3 : Fin 4) t0_0 d3))
  isplitr; · iexact HR
  isplitr; · iexact Hlev
  isplitr [Hr Hsp]
  · unfold bodyStart
    isplitl [Hbar]; · iexact Hbar
    isplitl [Hsg]; · iexact Hsg
    isplitl [Hwt]; · iexact Hwt
    isplitl [HO]; · iexact HO
    isplitl [HkP]; · iexact HkP
    isplitl [HvP]; · iexact HvP
    isplitl [Hc0]; · iexact Hc0
    isplitl [Hc1]; · iexact Hc1
    isplitl [Hs0]; · iexact Hs0
    isplitl [Hs1]; · iexact Hs1
    isplitl [Hs2]; · iexact Hs2
    isplitl [Hx]; · iexact Hx
    isplitl [Hq]; · iexact Hq
    iexact Ho
  isplitl [Hr]; · iexact Hr
  unfold bodyEnd
  iintro ⟨HO, Hx, Hq, Ho, Hr, HkP, HvP, Hc0, Hc1, Hs0, Hs1, Hs2, HZ⟩
  unfold post0 Φ₁ scr cpZ spareZ
  isplitr [HO Hx Hq Ho Hr]
  · isplitl [Hs0 Hs1 Hs2]
    · isplitl [Hs0]; · iexact Hs0
      isplitl [Hs1]; · iexact Hs1
      iexact Hs2
    isplitl [HkP]; · iexact HkP
    isplitl [HvP]; · iexact HvP
    isplitl [Hc0 Hc1]
    · isplitl [Hc0]; · iexact Hc0
      iexact Hc1
    isplitl [Hsp]; · iexact Hsp
    iexact HZ
  isplitl [HO]; · iapply (owes_out m ρ c); iexact HO
  isplitl [Hx]; · iapply (at_intro c _ _); iexact Hx
  isplitl [Hq]; · iapply (at_intro c _ _); iexact Hq
  isplitl [Ho]; · iapply (at_intro c _ _); iexact Ho
  iapply (at_intro c _ _); iexact Hr

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [own_whole]
  exact body_ob m ρ c

/-! ## The ring's cells and tokens at launch -/

def osem : Fin 22 → SemLoc sig := fun i => .dma ⟨4 + i.val, by have := i.isLt; show 4 + i.val < 26; omega⟩
theorem ownSemFacts : Pipeline.OwnSemFacts cfg0.spec osem := by decide
theorem share_eq (c : Dev nD) (w : Fin cfg0.W) : (dats m ρ 0 c).share w = fullShare := by unfold Dat.share; split <;> rfl

theorem csem_injective : Function.Injective csem := fun k k' h => by
  have := congrArg kOf h; rw [kOf_csem, kOf_csem] at this; exact Option.some.inj this
theorem kcell_injective : Function.Injective (kcell : Dev nD × Fin 15 → GSem nD τ sig) := fun ⟨c, k⟩ ⟨c', k'⟩ h => by
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's cells: each cell's `false`, and the barrier's `true`. -/
def tk : Fin 16 → Fin 15 × Bool := fun j => if h : j.val < 15 then (⟨j.val, h⟩, false) else (0, true)
theorem tk_injective : Function.Injective tk := by decide
def tokOf (cj : Dev nD × Fin 16) : GSem nD τ sig × ℕ × Bool := (kcell (cj.1, (tk cj.2).1), 0, (tk cj.2).2)
theorem tokOf_injective : Function.Injective tokOf := fun ⟨c, j⟩ ⟨c', j'⟩ h => by
  have h1 := kcell_injective (congrArg Prod.fst h)
  have h2 : (tk j).2 = (tk j').2 := congrArg (fun x => x.2.2) h
  have h3 : c = c' := congrArg Prod.fst h1
  have h4 : j = j' := tk_injective (Prod.ext (congrArg Prod.snd h1) h2)
  rw [h3, h4]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

def toks (c : Dev nD) : sProp 𝕄 := bigSep Finset.univ fun j : Fin 16 => dutyTok ER (kcell (c, (tk j).1)) 0 (tk j).2
def poss (c : Dev nD) : sProp 𝕄 := bigSep Finset.univ fun k : Fin 15 => atPos ER (kcell (c, k)) 0 ∅ 0

/-- What the launch deals device `c`. -/
def G (c : Dev nD) : sProp 𝕄 :=
  iprop((bigSep Finset.univ fun k : Fin 15 => roundState ER (sched m ρ) (kcell (c, k)) 0)
    ∗ (bigSep Finset.univ fun k : Fin 15 => reached ER (kcell (c, k)) 0) ∗ poss c ∗ toks c)

/-- Who device `c` pays its `j`-th token to. -/
def payee : Fin 16 → (Dev nD ≃ Dev nD) := ![ring, .refl _, .refl _, .refl _, .refl _, .refl _, .refl _, .refl _,
  ring, ring, ring, ring, ring.symm, ring.symm, ring.symm, ring.symm]
def payToks (c : Dev nD) : sProp 𝕄 := bigSep Finset.univ fun j : Fin 16 => dutyTok ER (kcell (payee j c, (tk j).1)) 0 (tk j).2

/-- A token and its owner, to the token and who is paid it. -/
def around : Dev nD × Fin 16 ≃ Dev nD × Fin 16 where
  toFun x := (payee x.2 x.1, x.2)
  invFun x := ((payee x.2).symm x.1, x.2)
  left_inv x := by simp
  right_inv x := by simp

/-- What a device has after the cells are set up. -/
def mine (c : Dev nD) : sProp 𝕄 := iprop(poss c ∗ payToks c ∗ cpZ c ∗ spareZ c)
def G' (c : Dev nD) : sProp 𝕄 := iprop((∃ K, records m ρ K) ∗ mine c)

omit [FloatOps F] [Named F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hr]; · iexact Hr
  isplitl [Hat]; · iexact Hat
  iexact Htok

abbrev ownS (c : Dev nD) : sProp 𝕄 := Pipeline.ownSems0 (Ix := Unit) (Name := ℕ) (U := UU) (Lvl := ℕ) (Val := Elt F) (τ := τ) osem c

omit [FloatOps F] [Named F] in
theorem ownS_eq (c : Dev nD) : (ownS c : sProp 𝕄) = iprop(semVal ((c : Thread nD τ), .dma (ds 4)) 0 ∗ semVal ((c : Thread nD τ), .dma (ds 5)) 0 ∗ semVal ((c : Thread nD τ), .dma (ds 20)) 0 ∗ semVal ((c : Thread nD τ), .dma (ds 21)) 0 ∗ semVal ((c : Thread nD τ), .dma (ds 12)) 0 ∗ semVal ((c : Thread nD τ), .dma (ds 13)) 0 ∗ semVal ((c : Thread nD τ), .dma (ds 14)) 0 ∗ semVal ((c : Thread nD τ), .dma (ds 9)) 0 ∗ semVal ((c : Thread nD τ), .dma (ds 10)) 0 ∗ semVal ((c : Thread nD τ), .dma (ds 22)) 0 ∗ semVal ((c : Thread nD τ), .dma (ds 23)) 0 ∗ semVal ((c : Thread nD τ), .dma (ds 17)) 0 ∗ semVal ((c : Thread nD τ), .dma (ds 18)) 0 ∗ semVal ((c : Thread nD τ), .dma (ds 19)) 0 ∗ semVal ((c : Thread nD τ), .dma (ds 24)) 0 ∗ semVal ((c : Thread nD τ), .dma (ds 25)) 0 ∗ semVal ((c : Thread nD τ), .dma (ds 6)) 0 ∗ semVal ((c : Thread nD τ), .dma (ds 7)) 0 ∗ semVal ((c : Thread nD τ), .dma (ds 8)) 0 ∗ semVal ((c : Thread nD τ), .dma (ds 11)) 0 ∗ semVal ((c : Thread nD τ), .dma (ds 15)) 0 ∗ semVal ((c : Thread nD τ), .dma (ds 16)) 0) := by
  unfold ownS; rw [Pipeline.ownSems0_eq_of_list c osem [0, 1, 16, 17, 8, 9, 10, 5, 6, 18, 19, 13, 14, 15, 20, 21, 2, 3, 4, 7, 11, 12] (by decide) (by decide)]; rfl
omit [FloatOps F] [Named F] in
theorem unscoped_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] [Named F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] [Named F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] [Named F] in
theorem sems_split (c : Dev nD) : iprop(ownS c ∗ unscopedSems0 c) ⊢ (iprop(cellsZ c ∗ cpZ c ∗ spareZ c) : sProp 𝕄) := by
  rw [ownS_eq, unscoped_eq]; unfold cellsZ cpZ spareZ
  iintro ⟨⟨H1, H2, H3, H4, H5, H6, H7, H8, H9, H10, H11, H12, H13, H14, Ha, Hb, Hr⟩, H0⟩
  isplitr [Ha Hb Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [Ha Hb]
  · isplitl [Ha]; · iexact Ha
    iexact Hb
  iexact Hr
omit [FloatOps F] [Named F] in
theorem sems_join (c : Dev nD) : iprop(cellsZ c ∗ cpZ c ∗ spareZ c) ⊢ (iprop(unscopedSems0 c ∗ ownS c) : sProp 𝕄) := by
  rw [ownS_eq, unscoped_eq]; unfold cellsZ cpZ spareZ
  iintro ⟨⟨H0, H1, H2, H3, H4, H5, H6, H7, H8, H9, H10, H11, H12, H13, H14⟩, ⟨Ha, Hb⟩, Hr⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Ha]; · iexact Ha
  isplitl [Hb]; · iexact Hb
  iexact Hr
omit [FloatOps F] [Named F] in
theorem cellsZ_eq (c : Dev nD) : (cellsZ c : sProp 𝕄) = bigSep Finset.univ fun k : Fin 15 => semVal (kcell (c, k)) 0 := by
  rw [bigSep_fin15]; rfl

omit [FloatOps F] [Named F] in
theorem core_alloc (c : Dev nD) :
    iprop(ownS c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 15 => reached ER (kcell (c, k)) 0) ∗ poss c ∗ toks c ∗ cpZ c ∗ spareZ c) := by
  unfold G
  iintro ⟨Hos, Hus, Hst, Hr, Hat, Htok⟩
  ihave Hv := (sems_split (F := F) c) $$ [Hos Hus]
  · isplitl [Hos]; · iexact Hos
    iexact Hus
  icases Hv with ⟨Hv, Hcp, Hsp⟩
  ihave Hv := (Entails.of_eq (cellsZ_eq c)) $$ Hv
  imod (show iprop((bigSep Finset.univ fun k : Fin 15 => semVal (kcell (c, k)) 0) ∗ bigSep Finset.univ fun k : Fin 15 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  isplitl [Hcp]; · iexact Hcp
  iexact Hsp

omit [FloatOps F] [Named F] in
/-- The tokens dealt around the ring, each to the device that pays it. -/
theorem toks_around : (bigSep Finset.univ fun c : Dev nD => (toks c : sProp 𝕄)) = bigSep Finset.univ fun c : Dev nD => payToks c := by
  unfold toks payToks
  rw [← bigSep_univ_prod (fun x : Dev nD × Fin 16 => (dutyTok ER (kcell (x.1, (tk x.2).1)) 0 (tk x.2).2 : sProp 𝕄)),
    ← bigSep_univ_prod (fun x : Dev nD × Fin 16 => (dutyTok ER (kcell (payee x.2 x.1, (tk x.2).1)) 0 (tk x.2).2 : sProp 𝕄)),
    bigSep_univ_equiv around]; rfl

omit [FloatOps F] [Named F] in
theorem regroup :
    (bigSep Finset.univ fun c : Dev nD => iprop((bigSep Finset.univ fun k => iprop(∃ κ : ℕ, cellInv ER (sched m ρ) κ (kcell (c, k))))
          ∗ (bigSep Finset.univ fun k : Fin 15 => reached ER (kcell (c, k)) 0) ∗ poss c ∗ toks c ∗ cpZ c ∗ spareZ c) : sProp 𝕄)
      ⊢ bigSep Finset.univ (G' m ρ) := by
  rw [bigSep_sep', bigSep_sep', bigSep_sep', bigSep_sep', bigSep_sep', toks_around,
    ← bigSep_univ_prod (fun ck : Dev nD × Fin 15 => iprop(∃ κ : ℕ, cellInv ER (sched m ρ) κ (kcell ck))),
    ← bigSep_univ_prod (fun ck : Dev nD × Fin 15 => (reached ER (kcell ck) 0 : sProp 𝕄))]
  iintro ⟨HI, #HR, Hat, Htok, Hcp, Hsp⟩
  ihave HK := (BI.bigSep_exists_pi Finset.univ (fun (ck : Dev nD × Fin 15) (κ : ℕ) => (cellInv ER (sched m ρ) κ (kcell ck) : sProp 𝕄))) $$ HI
  icases HK with ⟨%K, #HI⟩
  unfold G' mine; simp only [bigSep_sep']
  isplitr
  · iapply (BI.bigSep_of_persistent Finset.univ (records m ρ K) |>.trans (bigSep_mono fun c _ => show records m ρ K ⊢ iprop(∃ K, records m ρ K) from by
      iintro H; iexists K; iexact H))
    unfold records; isplitl; · iexact HI
    iexact HR
  isplitl [Hat]; · iexact Hat
  isplitl [Htok]; · iexact Htok
  isplitl [Hcp]; · iexact Hcp
  iexact Hsp

omit [FloatOps F] [Named F] in
theorem glob : (bigSep Finset.univ fun c => iprop(ownS c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credit at launch -/

theorem debt_cell (d c : Dev nD) (k : Fin 15) (l : List (Bool × Fin 15)) :
    debt d l (kcell (c, k)) () = amt k * l.countP fun x => decide (x.2 = k ∧ tgt x.1 d = c) := by
  induction l with
  | nil => rfl
  | cons x l ih =>
    unfold debt
    rw [Pi.add_apply, Finsupp.add_apply, ih, tallyAt_apply, List.countP_cons, Nat.mul_add]
    congr 1
    by_cases h : x.2 = k ∧ tgt x.1 d = c
    · obtain ⟨h1, h2⟩ := h
      rw [if_pos ⟨by rw [h1, h2], rfl⟩, if_pos (by simp [h1, h2]), Nat.mul_one, h1]
    · rw [if_neg (fun h' => h (by have := kcell_injective h'.1; exact ⟨(congrArg Prod.snd this).symm, (congrArg Prod.fst this).symm⟩)), if_neg (by simpa using h), Nat.mul_zero]

def credN : Fin 15 → ℕ := ![2, 0, 0, 0, 0, 0, 0, 0, 1, 1, 1, 1, 1, 1, 1]
theorem credN_eq : ∀ (c : Dev nD) (k : Fin 15), (∑ d : Dev nD, dueL.countP fun x => decide (x.2 = k ∧ tgt x.1 d = c)) = credN k := by decide

theorem launch_cell (c : Dev nD) (k : Fin 15) :
    tallyOn (kcell (c, k)) (launchCredit (Pipeline.owing O₀) 0 (kcell (c, k))) = (tallyAt (kcell (c, k)) () (amt k * credN k) : CellTallies nD τ sig Unit) := by
  unfold tallyAt; refine congrArg _ (Finsupp.ext fun u => ?_); cases u
  rw [Pipeline.launchCredit_owing, Finsupp.single_eq_same, show (∑ d : Dev nD, O₀ d (kcell (c, k)) PUnit.unit) = ∑ d : Dev nD, amt k * dueL.countP (fun x => decide (x.2 = k ∧ tgt x.1 d = c)) from Finset.sum_congr rfl fun d _ => debt_cell d c k dueL, ← Finset.mul_sum, credN_eq]

omit [FloatOps F] [Named F] in
theorem creds (c : Dev nD) :
    (Pipeline.launchCred O₀ c : sProp 𝕄) ⊢ bigSep Finset.univ fun k : Fin 15 => cred (tallyAt (kcell (c, k)) () (amt k * credN k)) := by
  unfold Pipeline.launchCred
  refine (bigSep_subset (Finset.subset_univ (Finset.univ.map ⟨csem, csem_injective⟩))).trans ?_
  rw [bigSep_map]
  exact bigSep_mono fun k _ => Entails.of_eq (congrArg cred (launch_cell c k))

omit [FloatOps F] [Named F] in
theorem cred_one (c : Dev nD) (k : Fin 15) (h : credN k = 1) :
    (cred (tallyAt (kcell (c, k)) () (amt k * credN k)) : sProp 𝕄) ⊢ cred (tallyAt (kcell (c, k)) () (amt k)) := by
  rw [h, Nat.mul_one]

omit [FloatOps F] [Named F] in
/-- The places, the tokens and the credits, as the body's run takes them. -/
theorem deal (c : Dev nD) : iprop(poss c ∗ payToks c ∗ Pipeline.launchCred O₀ c) ⊢ (iprop(barG c ∗ sgs c ∗ wts c) : sProp 𝕄) := by
  unfold poss payToks barG sgs wts sg wt
  rw [bigSep_fin15, bigSep_fin16]
  refine (sep_mono_right (sep_mono_right ((creds c).trans (Entails.of_eq (bigSep_fin15 _))))).trans ?_
  iintro ⟨⟨P0, P1, P2, P3, P4, P5, P6, P7, P8, P9, P10, P11, P12, P13, P14⟩, ⟨T0, T1, T2, T3, T4, T5, T6, T7, T8, T9, T10, T11, T12, T13, T14, T15⟩, ⟨C0, C1, C2, C3, C4, C5, C6, C7, C8, C9, C10, C11, C12, C13, C14⟩⟩
  isplitl [T15 T0 P0 C0]
  · isplitl [T15]; · iapply (Entails.of_eq (show (dutyTok ER (kcell (payee 15 c, (tk 15).1)) 0 (tk 15).2 : sProp 𝕄) = dutyTok ER (kcell (prv c, 0)) 0 true from rfl)); iexact T15
    isplitl [T0]; · iapply (Entails.of_eq (show (dutyTok ER (kcell (payee 0 c, (tk 0).1)) 0 (tk 0).2 : sProp 𝕄) = dutyTok ER (kcell (nxt c, 0)) 0 false from rfl)); iexact T0
    isplitl [P0]; · iexact P0
    iapply (Entails.of_eq (show (cred (tallyAt (kcell (c, 0)) () (amt 0 * credN 0)) : sProp 𝕄) = cred (tallyAt (kcell (c, 0)) () 2) from rfl)); iexact C0
  isplitl [T1 T8 P1 T2 T9 P2 T3 T10 P3 T4 T11 P4 T5 T12 P5 T6 T13 P6 T7 T14 P7]
  · isplitl [T1 T8 P1]
    · isplitl [T1]; · iapply (Entails.of_eq (show (dutyTok ER (kcell (payee 1 c, (tk 1).1)) 0 (tk 1).2 : sProp 𝕄) = dutyTok ER (kcell (c, ks 0)) 0 false from rfl)); iexact T1
      isplitl [T8]; · iapply (Entails.of_eq (show (dutyTok ER (kcell (payee 8 c, (tk 8).1)) 0 (tk 8).2 : sProp 𝕄) = dutyTok ER (kcell (tgt (dirT 0) c, kr 0)) 0 false from rfl)); iexact T8
      iapply (Entails.of_eq (show (atPos ER (kcell (c, 1)) 0 ∅ 0 : sProp 𝕄) = atPos ER (kcell (c, ks 0)) 0 ∅ 0 from rfl)); iexact P1
    isplitl [T2 T9 P2]
    · isplitl [T2]; · iapply (Entails.of_eq (show (dutyTok ER (kcell (payee 2 c, (tk 2).1)) 0 (tk 2).2 : sProp 𝕄) = dutyTok ER (kcell (c, ks 1)) 0 false from rfl)); iexact T2
      isplitl [T9]; · iapply (Entails.of_eq (show (dutyTok ER (kcell (payee 9 c, (tk 9).1)) 0 (tk 9).2 : sProp 𝕄) = dutyTok ER (kcell (tgt (dirT 1) c, kr 1)) 0 false from rfl)); iexact T9
      iapply (Entails.of_eq (show (atPos ER (kcell (c, 2)) 0 ∅ 0 : sProp 𝕄) = atPos ER (kcell (c, ks 1)) 0 ∅ 0 from rfl)); iexact P2
    isplitl [T3 T10 P3]
    · isplitl [T3]; · iapply (Entails.of_eq (show (dutyTok ER (kcell (payee 3 c, (tk 3).1)) 0 (tk 3).2 : sProp 𝕄) = dutyTok ER (kcell (c, ks 2)) 0 false from rfl)); iexact T3
      isplitl [T10]; · iapply (Entails.of_eq (show (dutyTok ER (kcell (payee 10 c, (tk 10).1)) 0 (tk 10).2 : sProp 𝕄) = dutyTok ER (kcell (tgt (dirT 2) c, kr 2)) 0 false from rfl)); iexact T10
      iapply (Entails.of_eq (show (atPos ER (kcell (c, 3)) 0 ∅ 0 : sProp 𝕄) = atPos ER (kcell (c, ks 2)) 0 ∅ 0 from rfl)); iexact P3
    isplitl [T4 T11 P4]
    · isplitl [T4]; · iapply (Entails.of_eq (show (dutyTok ER (kcell (payee 4 c, (tk 4).1)) 0 (tk 4).2 : sProp 𝕄) = dutyTok ER (kcell (c, ks 3)) 0 false from rfl)); iexact T4
      isplitl [T11]; · iapply (Entails.of_eq (show (dutyTok ER (kcell (payee 11 c, (tk 11).1)) 0 (tk 11).2 : sProp 𝕄) = dutyTok ER (kcell (tgt (dirT 3) c, kr 3)) 0 false from rfl)); iexact T11
      iapply (Entails.of_eq (show (atPos ER (kcell (c, 4)) 0 ∅ 0 : sProp 𝕄) = atPos ER (kcell (c, ks 3)) 0 ∅ 0 from rfl)); iexact P4
    isplitl [T5 T12 P5]
    · isplitl [T5]; · iapply (Entails.of_eq (show (dutyTok ER (kcell (payee 5 c, (tk 5).1)) 0 (tk 5).2 : sProp 𝕄) = dutyTok ER (kcell (c, ks 4)) 0 false from rfl)); iexact T5
      isplitl [T12]; · iapply (Entails.of_eq (show (dutyTok ER (kcell (payee 12 c, (tk 12).1)) 0 (tk 12).2 : sProp 𝕄) = dutyTok ER (kcell (tgt (dirT 4) c, kr 4)) 0 false from rfl)); iexact T12
      iapply (Entails.of_eq (show (atPos ER (kcell (c, 5)) 0 ∅ 0 : sProp 𝕄) = atPos ER (kcell (c, ks 4)) 0 ∅ 0 from rfl)); iexact P5
    isplitl [T6 T13 P6]
    · isplitl [T6]; · iapply (Entails.of_eq (show (dutyTok ER (kcell (payee 6 c, (tk 6).1)) 0 (tk 6).2 : sProp 𝕄) = dutyTok ER (kcell (c, ks 5)) 0 false from rfl)); iexact T6
      isplitl [T13]; · iapply (Entails.of_eq (show (dutyTok ER (kcell (payee 13 c, (tk 13).1)) 0 (tk 13).2 : sProp 𝕄) = dutyTok ER (kcell (tgt (dirT 5) c, kr 5)) 0 false from rfl)); iexact T13
      iapply (Entails.of_eq (show (atPos ER (kcell (c, 6)) 0 ∅ 0 : sProp 𝕄) = atPos ER (kcell (c, ks 5)) 0 ∅ 0 from rfl)); iexact P6
    isplitl [T7]; · iapply (Entails.of_eq (show (dutyTok ER (kcell (payee 7 c, (tk 7).1)) 0 (tk 7).2 : sProp 𝕄) = dutyTok ER (kcell (c, ks 6)) 0 false from rfl)); iexact T7
    isplitl [T14]; · iapply (Entails.of_eq (show (dutyTok ER (kcell (payee 14 c, (tk 14).1)) 0 (tk 14).2 : sProp 𝕄) = dutyTok ER (kcell (tgt (dirT 6) c, kr 6)) 0 false from rfl)); iexact T14
    iapply (Entails.of_eq (show (atPos ER (kcell (c, 7)) 0 ∅ 0 : sProp 𝕄) = atPos ER (kcell (c, ks 6)) 0 ∅ 0 from rfl)); iexact P7
  isplitl [P8 C8]
  · isplitl [P8]; · iexact P8
    iapply (cred_one c 8 rfl); iexact C8
  isplitl [P9 C9]
  · isplitl [P9]; · iexact P9
    iapply (cred_one c 9 rfl); iexact C9
  isplitl [P10 C10]
  · isplitl [P10]; · iexact P10
    iapply (cred_one c 10 rfl); iexact C10
  isplitl [P11 C11]
  · isplitl [P11]; · iexact P11
    iapply (cred_one c 11 rfl); iexact C11
  isplitl [P12 C12]
  · isplitl [P12]; · iexact P12
    iapply (cred_one c 12 rfl); iexact C12
  isplitl [P13 C13]
  · isplitl [P13]; · iexact P13
    iapply (cred_one c 13 rfl); iexact C13
  isplitl [P14]; · iexact P14
  iapply (cred_one c 14 rfl); iexact C14

/-! ## The side conditions -/

omit [FloatOps F] [Named F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' mine
  iintro ⟨⟨HkP, HvP⟩, Hlev, Hcr, -, HR, Hat, Htok, Hcp, Hsp⟩
  ihave H := (deal (F := F) c) $$ [Hat Htok Hcr]
  · isplitl [Hat]; · iexact Hat
    isplitl [Htok]; · iexact Htok
    iexact Hcr
  icases H with ⟨H1, H2, H3⟩
  imodintro
  unfold start kP vP
  isplitl
  · isplitl [HR]; · iexact HR
    isplitl [Hlev]; · iexact Hlev
    isplitl [H1]; · iexact H1
    isplitl [H2]; · iexact H2
    isplitl [H3]; · iexact H3
    isplitl [HkP]; · iexact HkP
    isplitl [HvP]; · iexact HvP
    isplitl [Hcp]; · iexact Hcp
    iexact Hsp
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- What a device has in the end beside its semaphores and its scratch: the barrier's counter, the keys, the values. -/
def Yd (c : Dev nD) : sProp 𝕄 := iprop(unscopedSems0 c ∗ kP m c ∗ vP m c)

theorem phi1_exit (c : Dev nD) :
    (dats m ρ 0 c).Φ (Fin.last cfg0.N) ⊢ iprop(Yd m c ∗ Pipeline.ownSems0 osem c ∗ Pipeline.scopedRest cfg0.spec c) := by
  rw [show (dats m ρ 0 c).Φ (Fin.last cfg0.N) = Φ₁ m c from rfl, scopedRest0_eq]
  unfold Φ₁ Yd scr
  iintro ⟨Hr, HkP, HvP, Hcp, Hsp, HZ⟩
  ihave H := (sems_join (F := F) c) $$ [HZ Hcp Hsp]
  · isplitl [HZ]; · iexact HZ
    isplitl [Hcp]; · iexact Hcp
    iexact Hsp
  icases H with ⟨Hu, Ho⟩
  isplitl [Hu HkP HvP]
  · isplitl [Hu]; · iexact Hu
    isplitl [HkP]; · iexact HkP
    iexact HvP
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_debt c _ dueL ?_
      fin_cases w <;> fin_cases s <;> decide
    · show (levAts L lv : sProp 𝕄) ⊢ MayWait _ _ () 0
      rw [MayWait_zero]; iintro -; iempintro

/-! ## The run -/

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

omit [FloatOps F] [Named F] in
theorem read_end (c : Dev nD) (s' : Phys nD τ sig (Elt F)) : iprop(Yd m c ∗ emp ∗ SI s') ⊢ (|={Set.univ}=> iprop(⌜QY m c s'.mem⌝ ∗ SI s') : sProp 𝕄) := by
  unfold Yd kP vP
  iintro ⟨⟨Hu, HkP, HvP⟩, -, HSI⟩
  icombine HSI HkP gives %hk
  icombine HSI HvP gives %hv
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨hs, Buf.eq_of_forall_mem_univ hk, Buf.eq_of_forall_mem_univ hv⟩
  iexact HSI

/-- A window's array in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- From any memory with zero counters, every weakly fair execution of @main on the four devices ends, each result
    array at the computed contents, the arguments unchanged, every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (Entails.of_eq (show (BI.own (embR (initOf ringCells ringToks, (1 : Counters))) : sProp 𝕄) = BI.own (ER (initOf ringCells ringToks)) from rfl)) $$ HX
      imod (fund_ring m ρ) $$ HX with HG
      imodintro
      isplitl [HP] <;> iassumption)
    (hglob := glob m ρ)
    (hA := fun _ _ => rfl) (hpf := fun _ k => k.elim0)
    (X := start m ρ) (Y := Yd m) (Z := fun _ => iprop(emp))
    (hX := start_intro m ρ) (hin := phi0_intro m ρ) (hout := phi1_exit m ρ)
    (QY := QY m) (hY := fun c s' => read_end m c s')
    (hQ := fun _ h hs => ⟨fun c => ⟨fun w => (h c).1 w, (h c).2.2.2⟩, sem_eq_zero hs fun c => (h c).2.2.1⟩)

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _

end Cert.Ring

end
-- ==== Proof.Frames.lean ====
/-
The claims that say nothing of values: each program runs, leaves its arguments and ends with every counter at zero,
and the kernel with the named constant is the kernel as printed.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Ring

open Idealize.ShloMosaic Idealize.ShloMosaic.TcCoe Idealize.SL.Sem

/-- At the machine's floats a named constant is the literal it names. -/
instance namedBits : Named Bits := ⟨fun _ _ {φ} bits => Scalar.ofBits φ bits⟩

/-- What the two predicates' operations ask of the shapes. -/
theorem factsK : Cert.Pre_finite_KernelIdeal.Facts where
  bcast_S_S1024x1024 := by decide
  reducesTo_S1024x1024_S_d0_1 := by decide
  h_S_ := by decide
  bcast_S_S1x1024x32x128 := by decide
  reducesTo_S1x1024x32x128_S_d0_1_2_3 := by decide

theorem factsR : Cert.Pre_finite_ReferenceIdeal.Facts where
  bcast_S_S4096x1024 := by decide
  reducesTo_S4096x1024_S_d0_1 := by decide
  h_S_ := by decide
  bcast_S_S1024x4096 := by decide
  reducesTo_S1024x4096_S_d0_1 := by decide
  bcast_S_S1x1024x32x128 := by decide
  reducesTo_S1x1024x32x128_S_d0_1_2_3 := by decide

theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => ⟨((h.1 c).1 (0 : Fin 4)).trans (finalA_x m ρ c),
    ((h.1 c).1 (1 : Fin 4)).trans (finalA_wq m ρ c), (h.1 c).2.1, (h.1 c).2.2,
    ((h.1 c).1 (2 : Fin 4)).trans (finalA_wo m ρ c)⟩, h.2⟩) (run_main (F := F) m ρ)

theorem defs₀_eq : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | ⟨0, _⟩, (t, s) => exact rfl

/-- At the machine's floats the two programs are the same. -/
theorem defs_eq : Cert.KernelIdeal.defs (F := Bits) = Cert.Kernel.defs (F := Bits) :=
  congrArg (Pipeline.defs (Cert.KernelIdeal.pcfgs (F := Bits))) defs₀_eq

theorem frame_kernel : Cert.quiescent_Kernel := by
  intro m ρ _
  have h := frame_any (F := Bits) m ρ
  rw [defs_eq] at h
  exact h

theorem frame_kernelIdeal : Cert.quiescent_KernelIdeal := fun m ρ _ => frame_any m ρ

theorem frame_kernelIdeal_pre : Cert.quiescent_KernelIdeal_pre_finite_KernelIdeal (hPre_finite_KernelIdeal := factsK) :=
  fun m ρ _ => frame_any m ρ

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem frame_reference_pre :
    Cert.quiescent_ReferenceIdeal_pre_finite_ReferenceIdeal (hPre_finite_ReferenceIdeal := factsR) :=
  fun m ρ _ => frame_reference m ρ trivial

theorem preserves : Cert.preserves_Kernel_KernelIdeal :=
  IdealRules.named_const.statement Cert.KernelIdeal.κ "s" .bf16 0x3DB5#16 _ rfl

end Cert.Ring

end
-- ==== Proof.Heads.lean ====
/-
The output block of a device written by head: the stages of the body folded into one function of a head's queries,
keys and values.
-/
module

public import proofs.«01_k».proof.Proof.Stages

@[expose] public section

noncomputable section

namespace Cert.Ring

open Cert.KernelIdeal Cert.KernelIdeal.Gen

open Idealize.ShloMosaic
open Idealize.ShloMosaic.TcCoe

variable {F : FTy → Type} [FloatOps F] [Named F]

/-- The weights of a head, not yet divided by their sum. -/
def hwts (M : IVec S1024x1024 1) (q k : FVec F S1024x128 .bf16) : FVec F S1024x1024 .bf16 :=
  select M (exp (truncf .bf16 (matmul dot_S1024x128_S1024x128_S1024x1024_1_1_0_0_n_n none q k (constant S1024x1024 .f32 0x00000000#32)) bitsLt_bf16_f32))
    (broadcast S1024x1024 (Scalar.ofBits .bf16 0x0000#16))

/-- What a head gives: the weighted values over the weights' sum. -/
def headv (M : IVec S1024x1024 1) (q k v : FVec F S1024x128 .bf16) : FVec F S1024x128 .bf16 :=
  truncf .bf16 (divf (matmul dot_S1024x1024_S1024x128_S1024x128_1_0_0_1_n_n none (hwts M q k) v (constant S1024x128 .f32 0x00000000#32))
    (broadcastTo S1024x128 (shapeCast S1024x1 (multiReduction .add [1] S1024 (extf .f32 (hwts M q k) bitsLt_bf16_f32) 0x00000000#32 reduces_S1024x1024_S1024 (.inl rfl) rfl) shapeCasts_S1024_S1024x1) broadcasts_S1024x1_S1024x128)) bitsLt_bf16_f32

/-- The keys or the values of eight heads as they are loaded. -/
def kv8 (r : Vec F S1x1024x8x128 .f32) : FVec F S1024x8x128 .bf16 :=
  truncf .bf16 (shapeCast S1024x8x128 r shapeCasts_S1x1024x8x128_S1024x8x128) bitsLt_bf16_f32

/-- One head of them. -/
def kv1 (h : Nat) (hs : S1024x8x128.Slices ![0, h, 0] S1024x1x128) (k : FVec F S1024x8x128 .bf16) : FVec F S1024x128 .bf16 :=
  shapeCast S1024x128 (extractStridedSlice S1024x1x128 ![0, h, 0] k hs) shapeCasts_S1024x1x128_S1024x128

/-- The queries of eight heads. -/
def q8 (x : FVec F S1024x1024 .bf16) (r : Vec F S1x1024x1024 .bf16) : FVec F S1024x1024 .bf16 :=
  truncf .bf16 (matmul dot_S1024x1024_S1024x1024_S1024x1024_1_0_0_1_n_n none x (shapeCast S1024x1024 r shapeCasts_S1x1024x1024_S1024x1024) (constant S1024x1024 .f32 0x00000000#32)) bitsLt_bf16_f32

/-- The queries of four heads. -/
def q4 (x : FVec F S1024x1024 .bf16) (r : Vec F S1x1024x512 .bf16) : FVec F S1024x512 .bf16 :=
  truncf .bf16 (matmul dot_S1024x1024_S1024x512_S1024x512_1_0_0_1_n_n none x (shapeCast S1024x512 r shapeCasts_S1x1024x512_S1024x512) (constant S1024x512 .f32 0x00000000#32)) bitsLt_bf16_f32

/-- One head of eight, at column `o` of the queries. -/
def hd8 (M : IVec S1024x1024 1) (q : FVec F S1024x1024 .bf16) (k v : FVec F S1024x8x128 .bf16) (o h : Nat)
    (hq : S1024x1024.Slices ![0, o] S1024x128) (hs : S1024x8x128.Slices ![0, h, 0] S1024x1x128) : FVec F S1024x128 .bf16 :=
  headv M (extractStridedSlice S1024x128 ![0, o] q hq) (kv1 h hs k) (kv1 h hs v)

/-- One head of four. -/
def hd4 (M : IVec S1024x1024 1) (q : FVec F S1024x512 .bf16) (k v : FVec F S1024x8x128 .bf16) (o h : Nat)
    (hq : S1024x512.Slices ![0, o] S1024x128) (hs : S1024x8x128.Slices ![0, h, 0] S1024x1x128) : FVec F S1024x128 .bf16 :=
  headv M (extractStridedSlice S1024x128 ![0, o] q hq) (kv1 h hs k) (kv1 h hs v)

def cat8 (M : IVec S1024x1024 1) (q : FVec F S1024x1024 .bf16) (k v : FVec F S1024x8x128 .bf16) : FVec F S1024x1024 .bf16 :=
  concatenate S1024x1024 1 [
    ⟨S1024x128, hd8 M q k v 0 0 slices_S1024x1024_o0_0_S1024x128 slices_S1024x8x128_o0_0_0_S1024x1x128⟩,
    ⟨S1024x128, hd8 M q k v 128 1 slices_S1024x1024_o0_128_S1024x128 slices_S1024x8x128_o0_1_0_S1024x1x128⟩,
    ⟨S1024x128, hd8 M q k v 256 2 slices_S1024x1024_o0_256_S1024x128 slices_S1024x8x128_o0_2_0_S1024x1x128⟩,
    ⟨S1024x128, hd8 M q k v 384 3 slices_S1024x1024_o0_384_S1024x128 slices_S1024x8x128_o0_3_0_S1024x1x128⟩,
    ⟨S1024x128, hd8 M q k v 512 4 slices_S1024x1024_o0_512_S1024x128 slices_S1024x8x128_o0_4_0_S1024x1x128⟩,
    ⟨S1024x128, hd8 M q k v 640 5 slices_S1024x1024_o0_640_S1024x128 slices_S1024x8x128_o0_5_0_S1024x1x128⟩,
    ⟨S1024x128, hd8 M q k v 768 6 slices_S1024x1024_o0_768_S1024x128 slices_S1024x8x128_o0_6_0_S1024x1x128⟩,
    ⟨S1024x128, hd8 M q k v 896 7 slices_S1024x1024_o0_896_S1024x128 slices_S1024x8x128_o0_7_0_S1024x1x128⟩]
    concatenates_S1024x128_S1024x128_S1024x128_S1024x128_S1024x128_S1024x128_S1024x128_S1024x128_S1024x1024_d1

def cat4l (M : IVec S1024x1024 1) (q : FVec F S1024x512 .bf16) (k v : FVec F S1024x8x128 .bf16) : FVec F S1024x512 .bf16 :=
  concatenate S1024x512 1 [
    ⟨S1024x128, hd4 M q k v 0 0 slices_S1024x512_o0_0_S1024x128 slices_S1024x8x128_o0_0_0_S1024x1x128⟩,
    ⟨S1024x128, hd4 M q k v 128 1 slices_S1024x512_o0_128_S1024x128 slices_S1024x8x128_o0_1_0_S1024x1x128⟩,
    ⟨S1024x128, hd4 M q k v 256 2 slices_S1024x512_o0_256_S1024x128 slices_S1024x8x128_o0_2_0_S1024x1x128⟩,
    ⟨S1024x128, hd4 M q k v 384 3 slices_S1024x512_o0_384_S1024x128 slices_S1024x8x128_o0_3_0_S1024x1x128⟩]
    concatenates_S1024x128_S1024x128_S1024x128_S1024x128_S1024x512_d1

def cat4r (M : IVec S1024x1024 1) (q : FVec F S1024x512 .bf16) (k v : FVec F S1024x8x128 .bf16) : FVec F S1024x512 .bf16 :=
  concatenate S1024x512 1 [
    ⟨S1024x128, hd4 M q k v 0 4 slices_S1024x512_o0_0_S1024x128 slices_S1024x8x128_o0_4_0_S1024x1x128⟩,
    ⟨S1024x128, hd4 M q k v 128 5 slices_S1024x512_o0_128_S1024x128 slices_S1024x8x128_o0_5_0_S1024x1x128⟩,
    ⟨S1024x128, hd4 M q k v 256 6 slices_S1024x512_o0_256_S1024x128 slices_S1024x8x128_o0_6_0_S1024x1x128⟩,
    ⟨S1024x128, hd4 M q k v 384 7 slices_S1024x512_o0_384_S1024x128 slices_S1024x8x128_o0_7_0_S1024x1x128⟩]
    concatenates_S1024x128_S1024x128_S1024x128_S1024x128_S1024x512_d1

/-- A group's context times its block of the second projection. -/
def prj8 (ctx : FVec F S1024x1024 .bf16) (r : Vec F S1x1024x1024 .bf16) : FVec F S1024x1024 .f32 :=
  matmul dot_S1024x1024_S1024x1024_S1024x1024_1_0_0_1_n_n none ctx (shapeCast S1024x1024 r shapeCasts_S1x1024x1024_S1024x1024) (constant S1024x1024 .f32 0x00000000#32)

def prj4 (ctx : FVec F S1024x512 .bf16) (r : Vec F S1x512x1024 .bf16) : FVec F S1024x1024 .f32 :=
  matmul dot_S1024x512_S512x1024_S1024x1024_1_0_0_1_n_n none ctx (shapeCast S512x1024 r shapeCasts_S1x512x1024_S512x1024) (constant S1024x1024 .f32 0x00000000#32)

theorem st0_eq (M : IVec S1024x1024 1) (x : FVec F S1024x1024 .bf16) (rq : Vec F S1x1024x1024 .bf16) (rk rv : Vec F S1x1024x8x128 .f32)
    (ro : Vec F S1x1024x1024 .bf16) : st0 M x rq rk rv ro = prj8 (cat8 M (q8 x rq) (kv8 rk) (kv8 rv)) ro := rfl

theorem ctx1_eq (M : IVec S1024x1024 1) (x : FVec F S1024x1024 .bf16) (rq : Vec F S1x1024x1024 .bf16) (rk rv : Vec F S1x1024x8x128 .f32) :
    ctx1 M x rq rk rv = cat8 M (q8 x rq) (kv8 rk) (kv8 rv) := rfl

theorem st2_eq (M : IVec S1024x1024 1) (x : FVec F S1024x1024 .bf16) (rq : Vec F S1x1024x1024 .bf16) (rk rv : Vec F S1x1024x8x128 .f32)
    (X : FVec F S1024x1024 .f32) (ro : Vec F S1x1024x1024 .bf16) :
    st2 M x rq rk rv X ro = addf (shapeCast S1024x1024 X shapeCasts_S1024x1024_S1024x1024) (prj8 (cat8 M (q8 x rq) (kv8 rk) (kv8 rv)) ro) := rfl

theorem st3_eq (M : IVec S1024x1024 1) (x : FVec F S1024x1024 .bf16) (rk rv : Vec F S1x1024x8x128 .f32) (rq : Vec F S1x1024x512 .bf16)
    (X : FVec F S1024x1024 .f32) (ro : Vec F S1x512x1024 .bf16) :
    st3 M x rk rv rq X ro = addf (shapeCast S1024x1024 X shapeCasts_S1024x1024_S1024x1024) (prj4 (cat4l M (q4 x rq) (kv8 rk) (kv8 rv)) ro) := rfl

theorem st4_eq (M : IVec S1024x1024 1) (x : FVec F S1024x1024 .bf16) (rk rv : Vec F S1x1024x8x128 .f32) (rq : Vec F S1x1024x512 .bf16)
    (X : FVec F S1024x1024 .f32) (ro : Vec F S1x512x1024 .bf16) :
    st4 M x rk rv rq X ro = addf (shapeCast S1024x1024 X shapeCasts_S1024x1024_S1024x1024) (prj4 (cat4r M (q4 x rq) (kv8 rk) (kv8 rv)) ro) := rfl

theorem last_eq (ctx : FVec F S1024x1024 .bf16) (X : FVec F S1024x1024 .f32) (ro : Vec F S1x1024x1024 .bf16) :
    k0_pay71 ctx X ro = addf (shapeCast S1024x1024 X shapeCasts_S1024x1024_S1024x1024) (prj8 ctx ro) := rfl

end Cert.Ring

end
-- ==== Proof.Attn.lean ====
/-
The arithmetic of one query row over the extended reals: the weights without the row's maximum taken off and divided
once at the end, against the softmax that takes it off and divides each weight.
-/
module

public import Idealize.ShloMosaic.PureOps.Ideal
public import Mathlib.Data.EReal.Inv

@[expose] public section

noncomputable section

namespace Cert.Ring

open Idealize.ShloMosaic

/-- A nonnegative real goes into a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert x s hx ih =>
    rw [Finset.sum_insert hx, Finset.sum_insert hx, EReal.left_distrib_of_nonneg_of_ne_top (by exact_mod_cast ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- The maximum of a row of reals, some of them masked to the least element but not all, is a real. -/
theorem rowmax_real {n : Nat} (keep : Fin n → Prop) [DecidablePred keep] (σ : Fin n → ℝ) (hne : ∃ j, keep j) :
    ∃ μ : ℝ, Finset.univ.fold max (⊥ : EReal) (fun j => if keep j then (σ j : EReal) else ⊥) = (μ : EReal) := by
  obtain ⟨j₀, h₀⟩ := hne
  have hb : Finset.univ.fold max (⊥ : EReal) (fun j => if keep j then (σ j : EReal) else ⊥) ≠ ⊥ := by
    intro h
    have := (Finset.fold_max_le (s := Finset.univ) (f := fun j => if keep j then (σ j : EReal) else ⊥) (b := (⊥ : EReal)) ⊥).1 h.le
    have := this.2 j₀ (Finset.mem_univ _)
    rw [if_pos h₀] at this
    exact absurd (le_bot_iff.1 this) (EReal.coe_ne_bot _)
  have ht : Finset.univ.fold max (⊥ : EReal) (fun j => if keep j then (σ j : EReal) else ⊥) ≠ ⊤ := by
    refine (Finset.fold_max_lt (s := Finset.univ) (f := fun j => if keep j then (σ j : EReal) else ⊥) (b := (⊥ : EReal)) ⊤).2 ⟨bot_lt_top, fun j _ => ?_⟩ |>.ne
    split
    · exact EReal.coe_lt_top _
    · exact bot_lt_top
  exact ⟨_, (EReal.coe_toReal ht hb).symm⟩

/-- One row of the attention, as the kernel computes it. -/
def att {n : Nat} (keep : Fin n → Prop) [DecidablePred keep] (σ v : Fin n → EReal) : EReal :=
  Ideal.div (∑ j, (if keep j then Ideal.exp (σ j) else 0) * v j) (∑ j, if keep j then Ideal.exp (σ j) else 0)

/-- One row of the attention, as the reference computes it. -/
def att' {n : Nat} (keep : Fin n → Prop) [DecidablePred keep] (σ v : Fin n → EReal) : EReal :=
  ∑ j, v j * Ideal.div (Ideal.exp ((if keep j then σ j else ⊥) - Finset.univ.fold max (⊥ : EReal) (fun j => if keep j then σ j else ⊥)))
    (∑ k, Ideal.exp ((if keep k then σ k else ⊥) - Finset.univ.fold max (⊥ : EReal) (fun j => if keep j then σ j else ⊥)))

theorem att_eq {n : Nat} (keep : Fin n → Prop) [DecidablePred keep] (σ : Fin n → ℝ) (v : Fin n → EReal) (hne : ∃ j, keep j) :
    att keep (fun j => (σ j : EReal)) v = att' keep (fun j => (σ j : EReal)) v := by
  obtain ⟨μ, hμ⟩ := rowmax_real keep σ hne
  unfold att att'
  rw [hμ]
  have hw : ∀ j, (if keep j then Ideal.exp (σ j : EReal) else 0) = ((if keep j then Real.exp (σ j) else 0 : ℝ) : EReal) := by
    intro j; split <;> simp
  have hw' : ∀ j, Ideal.exp ((if keep j then (σ j : EReal) else ⊥) - (μ : EReal)) = ((Real.exp (-μ) * (if keep j then Real.exp (σ j) else 0) : ℝ) : EReal) := by
    intro j
    split
    · rw [← EReal.coe_sub, Ideal.exp_coe, ← Real.exp_add]; congr 2; ring
    · simp
  simp only [hw, hw']
  rw [← coe_sum, ← coe_sum, ← Finset.mul_sum]
  obtain ⟨j₀, h₀⟩ := hne
  have hnn : ∀ j, (0 : ℝ) ≤ if keep j then Real.exp (σ j) else 0 := by intro j; split; exacts [(Real.exp_pos _).le, le_rfl]
  have hA : 0 < ∑ j, (if keep j then Real.exp (σ j) else 0 : ℝ) :=
    Finset.sum_pos' (fun j _ => hnn j) ⟨j₀, Finset.mem_univ _, by rw [if_pos h₀]; exact Real.exp_pos _⟩
  have hE := Real.exp_pos (-μ)
  rw [Ideal.div_coe hA.ne', mul_comm, coe_mul_sum _ _ (by positivity)]
  refine Finset.sum_congr rfl fun j _ => ?_
  rw [Ideal.div_coe (mul_pos hE hA).ne', ← mul_assoc, ← EReal.coe_mul, ← EReal.coe_mul, mul_comm]
  congr 2
  field_simp

/-- The score of a query row and a key row: the scale taken in at the input against the scale divided by at the end. -/
theorem score_eq {D E : Nat} (x : Fin D → ℝ) (w : Fin D → Fin E → ℝ) (k : Fin E → ℝ) (t : ℝ) (ht : t ≠ 0) :
    (∑ e, (∑ d, ((x d : EReal) * ((t⁻¹ : ℝ) : EReal)) * (w d e : EReal)) * (k e : EReal)
        = ((∑ e, (∑ d, (x d * t⁻¹) * w d e) * k e : ℝ) : EReal))
      ∧ Ideal.div (∑ e, (∑ d, (x d : EReal) * (w d e : EReal)) * (k e : EReal)) (t : EReal)
        = ((∑ e, (∑ d, (x d * t⁻¹) * w d e) * k e : ℝ) : EReal) := by
  constructor
  · simp only [← EReal.coe_mul, ← coe_sum]
  · simp only [← EReal.coe_mul, ← coe_sum]
    rw [Ideal.div_coe ht, ← EReal.coe_mul]
    congr 1
    rw [Finset.sum_mul]
    refine Finset.sum_congr rfl fun e _ => ?_
    rw [mul_right_comm, Finset.sum_mul]
    congr 1
    refine Finset.sum_congr rfl fun d _ => ?_
    rw [one_div]; ring

end Cert.Ring

end
-- ==== Proof.KRead.lean ====
/-
The stages of the kernel read at an index, over the extended reals.
-/
module

public import proofs.«01_k».proof.Proof.Heads
public import proofs.«01_k».proof.Proof.Attn
public import Idealize.ShloMosaic.Lib.Pointwise

@[expose] public section

noncomputable section

namespace Cert.Val

open Cert.KernelIdeal Cert.KernelIdeal.Gen
open Cert.Ring hiding ix2 ix4

open Idealize.ShloMosaic
open Idealize.ShloMosaic.TcCoe

theorem hwts_apply (M : IVec S1024x1024 1) (q k : FVec Ideal S1024x128 .bf16) (r l : Fin 1024) :
    hwts M q k (ix2 r l) = if M (ix2 r l) = 1#1 then Ideal.exp (∑ e : Fin 128, q (ix2 r e) * k (ix2 l e)) else 0 := by
  pointwise [hwts]
  rfl

theorem headv_apply (M : IVec S1024x1024 1) (q k v : FVec Ideal S1024x128 .bf16) (r : Fin 1024) (l : Fin 128) :
    headv M q k v (ix2 r l) = Ideal.div (∑ j : Fin 1024, hwts M q k (ix2 r j) * v (ix2 j l)) (∑ j : Fin 1024, hwts M q k (ix2 r j)) := by
  pointwise [headv]

theorem kv1_apply (h : Nat) (hs : S1024x8x128.Slices ![0, h, 0] S1024x1x128) (h8 : h < 8) (k : FVec Ideal S1024x8x128 .bf16) (r : Fin 1024) (l : Fin 128) :
    kv1 h hs k (ix2 r l) = k (ix3 r ⟨h, h8⟩ l) := by
  pointwise [kv1]

theorem kv8_apply (r : Vec Ideal S1x1024x8x128 .f32) (i : Fin 1024) (h : Fin 8) (l : Fin 128) : kv8 r (ix3 i h l) = r (ix4 0 i h l) := by
  pointwise [kv8]

theorem q8_apply (x : FVec Ideal S1024x1024 .bf16) (w : Vec Ideal S1x1024x1024 .bf16) (r l : Fin 1024) :
    q8 x w (ix2 r l) = ∑ d : Fin 1024, x (ix2 r d) * w (ix3 0 d l) := by
  pointwise [q8]

theorem q4_apply (x : FVec Ideal S1024x1024 .bf16) (w : Vec Ideal S1x1024x512 .bf16) (r : Fin 1024) (l : Fin 512) :
    q4 x w (ix2 r l) = ∑ d : Fin 1024, x (ix2 r d) * w (ix3 0 d l) := by
  pointwise [q4]

theorem prj8_apply (x : FVec Ideal S1024x1024 .bf16) (w : Vec Ideal S1x1024x1024 .bf16) (r l : Fin 1024) :
    prj8 x w (ix2 r l) = ∑ d : Fin 1024, x (ix2 r d) * w (ix3 0 d l) := by
  pointwise [prj8]

theorem prj4_apply (x : FVec Ideal S1024x512 .bf16) (w : Vec Ideal S1x512x1024 .bf16) (r l : Fin 1024) :
    prj4 x w (ix2 r l) = ∑ d : Fin 512, x (ix2 r d) * w (ix3 0 d l) := by
  pointwise [prj4]

theorem acc_apply (X Y : FVec Ideal S1024x1024 .f32) (r l : Fin 1024) :
    addf (shapeCast S1024x1024 X shapeCasts_S1024x1024_S1024x1024) Y (ix2 r l) = X (ix2 r l) + Y (ix2 r l) := by
  pointwise []

theorem slice8_apply (q : FVec Ideal S1024x1024 .bf16) (o : Nat) (hq : S1024x1024.Slices ![0, o] S1024x128) (ho : o + 128 ≤ 1024)
    (r : Fin 1024) (l : Fin 128) : extractStridedSlice S1024x128 ![0, o] q hq (ix2 r l) = q (ix2 r ⟨o + l.val, by omega⟩) := by
  pointwise []

theorem slice4_apply (q : FVec Ideal S1024x512 .bf16) (o : Nat) (hq : S1024x512.Slices ![0, o] S1024x128) (ho : o + 128 ≤ 512)
    (r : Fin 1024) (l : Fin 128) : extractStridedSlice S1024x128 ![0, o] q hq (ix2 r l) = q (ix2 r ⟨o + l.val, by omega⟩) := by
  pointwise []

/-- A head at an index. -/
theorem headv_att (M : IVec S1024x1024 1) (q k v : FVec Ideal S1024x128 .bf16) (r : Fin 1024) (l : Fin 128) :
    headv M q k v (ix2 r l) = att (fun j : Fin 1024 => M (ix2 r j) = 1#1) (fun j => ∑ e : Fin 128, q (ix2 r e) * k (ix2 j e)) (fun j => v (ix2 j l)) := by
  rw [headv_apply]
  simp only [hwts_apply, att]

theorem hd8_apply (M : IVec S1024x1024 1) (q : FVec Ideal S1024x1024 .bf16) (k v : FVec Ideal S1024x8x128 .bf16) (o h : Nat)
    (hq : S1024x1024.Slices ![0, o] S1024x128) (hs : S1024x8x128.Slices ![0, h, 0] S1024x1x128) (h8 : h < 8) (ho : o + 128 ≤ 1024) (r : Fin 1024) (l : Fin 128) :
    hd8 M q k v o h hq hs (ix2 r l) = att (fun j : Fin 1024 => M (ix2 r j) = 1#1)
      (fun j => ∑ e : Fin 128, q (ix2 r ⟨o + e.val, by omega⟩) * k (ix3 j ⟨h, h8⟩ e)) (fun j => v (ix3 j ⟨h, h8⟩ l)) := by
  rw [hd8, headv_att]
  simp only [slice8_apply q o hq ho, kv1_apply h hs h8]

theorem hd4_apply (M : IVec S1024x1024 1) (q : FVec Ideal S1024x512 .bf16) (k v : FVec Ideal S1024x8x128 .bf16) (o h : Nat)
    (hq : S1024x512.Slices ![0, o] S1024x128) (hs : S1024x8x128.Slices ![0, h, 0] S1024x1x128) (h8 : h < 8) (ho : o + 128 ≤ 512) (r : Fin 1024) (l : Fin 128) :
    hd4 M q k v o h hq hs (ix2 r l) = att (fun j : Fin 1024 => M (ix2 r j) = 1#1)
      (fun j => ∑ e : Fin 128, q (ix2 r ⟨o + e.val, by omega⟩) * k (ix3 j ⟨h, h8⟩ e)) (fun j => v (ix3 j ⟨h, h8⟩ l)) := by
  rw [hd4, headv_att]
  simp only [slice4_apply q o hq ho, kv1_apply h hs h8]

theorem cat8_apply (M : IVec S1024x1024 1) (q : FVec Ideal S1024x1024 .bf16) (k v : FVec Ideal S1024x8x128 .bf16) (r : Fin 1024) (l : Fin 128) : (h : Fin 8) →
    cat8 M q k v (ix2 r ⟨128 * h.val + l.val, by omega⟩) = att (fun j : Fin 1024 => M (ix2 r j) = 1#1)
      (fun j => ∑ e : Fin 128, q (ix2 r ⟨128 * h.val + e.val, by omega⟩) * k (ix3 j h e)) (fun j => v (ix3 j h l))
  | ⟨0, _⟩ => (concatenate_apply_piece (t := S1024x1024) 1 _ _ _ 0 (by simp) S1024x128 _ rfl rfl 0 rfl (ix2 r l)
      (fun b hb => by match b with | ⟨0, _⟩ => rfl | ⟨1, _⟩ => exact absurd rfl hb) rfl).trans (hd8_apply M q k v 0 0 slices_S1024x1024_o0_0_S1024x128 slices_S1024x8x128_o0_0_0_S1024x1x128 (by decide) (by decide) r l)
  | ⟨1, _⟩ => (concatenate_apply_piece (t := S1024x1024) 1 _ _ _ 1 (by simp) S1024x128 _ rfl rfl 128 rfl (ix2 r l)
      (fun b hb => by match b with | ⟨0, _⟩ => rfl | ⟨1, _⟩ => exact absurd rfl hb) rfl).trans (hd8_apply M q k v 128 1 slices_S1024x1024_o0_128_S1024x128 slices_S1024x8x128_o0_1_0_S1024x1x128 (by decide) (by decide) r l)
  | ⟨2, _⟩ => (concatenate_apply_piece (t := S1024x1024) 1 _ _ _ 2 (by simp) S1024x128 _ rfl rfl 256 rfl (ix2 r l)
      (fun b hb => by match b with | ⟨0, _⟩ => rfl | ⟨1, _⟩ => exact absurd rfl hb) rfl).trans (hd8_apply M q k v 256 2 slices_S1024x1024_o0_256_S1024x128 slices_S1024x8x128_o0_2_0_S1024x1x128 (by decide) (by decide) r l)
  | ⟨3, _⟩ => (concatenate_apply_piece (t := S1024x1024) 1 _ _ _ 3 (by simp) S1024x128 _ rfl rfl 384 rfl (ix2 r l)
      (fun b hb => by match b with | ⟨0, _⟩ => rfl | ⟨1, _⟩ => exact absurd rfl hb) rfl).trans (hd8_apply M q k v 384 3 slices_S1024x1024_o0_384_S1024x128 slices_S1024x8x128_o0_3_0_S1024x1x128 (by decide) (by decide) r l)
  | ⟨4, _⟩ => (concatenate_apply_piece (t := S1024x1024) 1 _ _ _ 4 (by simp) S1024x128 _ rfl rfl 512 rfl (ix2 r l)
      (fun b hb => by match b with | ⟨0, _⟩ => rfl | ⟨1, _⟩ => exact absurd rfl hb) rfl).trans (hd8_apply M q k v 512 4 slices_S1024x1024_o0_512_S1024x128 slices_S1024x8x128_o0_4_0_S1024x1x128 (by decide) (by decide) r l)
  | ⟨5, _⟩ => (concatenate_apply_piece (t := S1024x1024) 1 _ _ _ 5 (by simp) S1024x128 _ rfl rfl 640 rfl (ix2 r l)
      (fun b hb => by match b with | ⟨0, _⟩ => rfl | ⟨1, _⟩ => exact absurd rfl hb) rfl).trans (hd8_apply M q k v 640 5 slices_S1024x1024_o0_640_S1024x128 slices_S1024x8x128_o0_5_0_S1024x1x128 (by decide) (by decide) r l)
  | ⟨6, _⟩ => (concatenate_apply_piece (t := S1024x1024) 1 _ _ _ 6 (by simp) S1024x128 _ rfl rfl 768 rfl (ix2 r l)
      (fun b hb => by match b with | ⟨0, _⟩ => rfl | ⟨1, _⟩ => exact absurd rfl hb) rfl).trans (hd8_apply M q k v 768 6 slices_S1024x1024_o0_768_S1024x128 slices_S1024x8x128_o0_6_0_S1024x1x128 (by decide) (by decide) r l)
  | ⟨7, _⟩ => (concatenate_apply_piece (t := S1024x1024) 1 _ _ _ 7 (by simp) S1024x128 _ rfl rfl 896 rfl (ix2 r l)
      (fun b hb => by match b with | ⟨0, _⟩ => rfl | ⟨1, _⟩ => exact absurd rfl hb) rfl).trans (hd8_apply M q k v 896 7 slices_S1024x1024_o0_896_S1024x128 slices_S1024x8x128_o0_7_0_S1024x1x128 (by decide) (by decide) r l)

theorem cat4l_apply (M : IVec S1024x1024 1) (q : FVec Ideal S1024x512 .bf16) (k v : FVec Ideal S1024x8x128 .bf16) (r : Fin 1024) (l : Fin 128) : (h : Fin 4) →
    cat4l M q k v (ix2 r ⟨128 * h.val + l.val, by omega⟩) = att (fun j : Fin 1024 => M (ix2 r j) = 1#1)
      (fun j => ∑ e : Fin 128, q (ix2 r ⟨128 * h.val + e.val, by omega⟩) * k (ix3 j ⟨h.val, by omega⟩ e)) (fun j => v (ix3 j ⟨h.val, by omega⟩ l))
  | ⟨0, _⟩ => (concatenate_apply_piece (t := S1024x512) 1 _ _ _ 0 (by simp) S1024x128 _ rfl rfl 0 rfl (ix2 r l)
      (fun b hb => by match b with | ⟨0, _⟩ => rfl | ⟨1, _⟩ => exact absurd rfl hb) rfl).trans (hd4_apply M q k v 0 0 slices_S1024x512_o0_0_S1024x128 slices_S1024x8x128_o0_0_0_S1024x1x128 (by decide) (by decide) r l)
  | ⟨1, _⟩ => (concatenate_apply_piece (t := S1024x512) 1 _ _ _ 1 (by simp) S1024x128 _ rfl rfl 128 rfl (ix2 r l)
      (fun b hb => by match b with | ⟨0, _⟩ => rfl | ⟨1, _⟩ => exact absurd rfl hb) rfl).trans (hd4_apply M q k v 128 1 slices_S1024x512_o0_128_S1024x128 slices_S1024x8x128_o0_1_0_S1024x1x128 (by decide) (by decide) r l)
  | ⟨2, _⟩ => (concatenate_apply_piece (t := S1024x512) 1 _ _ _ 2 (by simp) S1024x128 _ rfl rfl 256 rfl (ix2 r l)
      (fun b hb => by match b with | ⟨0, _⟩ => rfl | ⟨1, _⟩ => exact absurd rfl hb) rfl).trans (hd4_apply M q k v 256 2 slices_S1024x512_o0_256_S1024x128 slices_S1024x8x128_o0_2_0_S1024x1x128 (by decide) (by decide) r l)
  | ⟨3, _⟩ => (concatenate_apply_piece (t := S1024x512) 1 _ _ _ 3 (by simp) S1024x128 _ rfl rfl 384 rfl (ix2 r l)
      (fun b hb => by match b with | ⟨0, _⟩ => rfl | ⟨1, _⟩ => exact absurd rfl hb) rfl).trans (hd4_apply M q k v 384 3 slices_S1024x512_o0_384_S1024x128 slices_S1024x8x128_o0_3_0_S1024x1x128 (by decide) (by decide) r l)

theorem cat4r_apply (M : IVec S1024x1024 1) (q : FVec Ideal S1024x512 .bf16) (k v : FVec Ideal S1024x8x128 .bf16) (r : Fin 1024) (l : Fin 128) : (h : Fin 4) →
    cat4r M q k v (ix2 r ⟨128 * h.val + l.val, by omega⟩) = att (fun j : Fin 1024 => M (ix2 r j) = 1#1)
      (fun j => ∑ e : Fin 128, q (ix2 r ⟨128 * h.val + e.val, by omega⟩) * k (ix3 j ⟨4 + h.val, by omega⟩ e)) (fun j => v (ix3 j ⟨4 + h.val, by omega⟩ l))
  | ⟨0, _⟩ => (concatenate_apply_piece (t := S1024x512) 1 _ _ _ 0 (by simp) S1024x128 _ rfl rfl 0 rfl (ix2 r l)
      (fun b hb => by match b with | ⟨0, _⟩ => rfl | ⟨1, _⟩ => exact absurd rfl hb) rfl).trans (hd4_apply M q k v 0 4 slices_S1024x512_o0_0_S1024x128 slices_S1024x8x128_o0_4_0_S1024x1x128 (by decide) (by decide) r l)
  | ⟨1, _⟩ => (concatenate_apply_piece (t := S1024x512) 1 _ _ _ 1 (by simp) S1024x128 _ rfl rfl 128 rfl (ix2 r l)
      (fun b hb => by match b with | ⟨0, _⟩ => rfl | ⟨1, _⟩ => exact absurd rfl hb) rfl).trans (hd4_apply M q k v 128 5 slices_S1024x512_o0_128_S1024x128 slices_S1024x8x128_o0_5_0_S1024x1x128 (by decide) (by decide) r l)
  | ⟨2, _⟩ => (concatenate_apply_piece (t := S1024x512) 1 _ _ _ 2 (by simp) S1024x128 _ rfl rfl 256 rfl (ix2 r l)
      (fun b hb => by match b with | ⟨0, _⟩ => rfl | ⟨1, _⟩ => exact absurd rfl hb) rfl).trans (hd4_apply M q k v 256 6 slices_S1024x512_o0_256_S1024x128 slices_S1024x8x128_o0_6_0_S1024x1x128 (by decide) (by decide) r l)
  | ⟨3, _⟩ => (concatenate_apply_piece (t := S1024x512) 1 _ _ _ 3 (by simp) S1024x128 _ rfl rfl 384 rfl (ix2 r l)
      (fun b hb => by match b with | ⟨0, _⟩ => rfl | ⟨1, _⟩ => exact absurd rfl hb) rfl).trans (hd4_apply M q k v 384 7 slices_S1024x512_o0_384_S1024x128 slices_S1024x8x128_o0_7_0_S1024x1x128 (by decide) (by decide) r l)

end Cert.Val

end
-- ==== Proof.Arrays.lean ====
/-
What the stages read, as entries of the arguments of the devices.
-/
module

public import proofs.«01_k».proof.Proof.Launch
public import proofs.«01_k».proof.Proof.KRead

@[expose] public section

noncomputable section

namespace Cert.Val

open Cert.KernelIdeal Cert.KernelIdeal.Gen
open Cert.Ring hiding ix2 ix4

open Idealize.ShloMosaic
open Idealize.ShloMosaic.TcCoe

variable {F : FTy → Type} [FloatOps F] [Named F]
variable (m : (ℓ : Loc nD τ sig) → Buf (Elt F) ℓ) (ρ : Dev nD → PrngReg)

theorem ix2_eq (a b : Fin 1024) : Cert.Ring.ix2 a b = ix2 a b := by
  funext k; match k with | ⟨0, _⟩ => rfl | ⟨1, _⟩ => rfl

/-- A device's block of the inputs, and its keys and values. -/
abbrev aX (c : Dev nD) : S1024x1024.Idx → F .bf16 := m ((c : Thread nD τ).loc main_arg0)
abbrev aQ (c : Dev nD) : S1024x1024.Idx → F .bf16 := m ((c : Thread nD τ).loc main_arg1)
abbrev aK (c : Dev nD) : S1x1024x32x128.Idx → F .f32 := m ((c : Thread nD τ).loc main_arg2)
abbrev aV (c : Dev nD) : S1x1024x32x128.Idx → F .f32 := m ((c : Thread nD τ).loc main_arg3)
abbrev aO (c : Dev nD) : S1024x1024.Idx → F .bf16 := m ((c : Thread nD τ).loc main_arg4)

theorem xB_eq (c : Dev nD) : xB m ρ c = aX m c := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wqB_eq (c : Dev nD) : wqB m ρ c = aQ m c := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem woB_eq (c : Dev nD) : woB m ρ c = aO m c := by
  have hz : (fun a => (win0_2.index (0 : Fin 1)) a * main_arg4.ty.shape.size a) = fun _ => 0 := funext fun a => by fin_cases a <;> decide
  exact Memref.read_access_unit_zero (Elt F) main_arg4 hz (fun a => by fin_cases a <;> decide) _

theorem WQ_apply (c : Dev nD) (h : Fin 4) (d e : Fin 1024) : WQ m ρ c (ix3 h d e) = aQ m (bwd c h) (ix2 d e) := by
  show wqB m ρ (bwd c h) (Cert.Ring.ix2 d e) = _
  rw [wqB_eq, ix2_eq]
theorem WO_apply (c : Dev nD) (h : Fin 4) (d e : Fin 1024) : WO m ρ c (ix3 h d e) = aO m (fwd c h) (ix2 d e) := by
  show woB m ρ (fwd c h) (Cert.Ring.ix2 d e) = _
  rw [woB_eq, ix2_eq]

theorem rdQ0_apply (c : Dev nD) (d : Fin 1024) (e : Fin 1024) : rdQ0 m ρ c (ix3 0 d e) = aQ m (bwd c 0) (ix2 d e) := by
  rw [← WQ_apply m ρ c 0]
  show WQ m ρ c (R0.toLoadRect.idx (ix3 0 d e)) = _
  congr 1; funext k; apply Fin.ext; fin_cases k <;> simp [Rect.unit, LoadRect.idx] <;> rfl
theorem rdQ1_apply (c : Dev nD) (d : Fin 1024) (e : Fin 1024) : rdQ1 m ρ c (ix3 0 d e) = aQ m (bwd c 1) (ix2 d e) := by
  rw [← WQ_apply m ρ c 1]
  show WQ m ρ c (R1.toLoadRect.idx (ix3 0 d e)) = _
  congr 1; funext k; apply Fin.ext; fin_cases k <;> simp [Rect.unit, LoadRect.idx] <;> rfl
theorem rdQ2_apply (c : Dev nD) (d : Fin 1024) (e : Fin 1024) : rdQ2 m ρ c (ix3 0 d e) = aQ m (bwd c 2) (ix2 d e) := by
  rw [← WQ_apply m ρ c 2]
  show WQ m ρ c (R2.toLoadRect.idx (ix3 0 d e)) = _
  congr 1; funext k; apply Fin.ext; fin_cases k <;> simp [Rect.unit, LoadRect.idx] <;> rfl
theorem rdQ3l_apply (c : Dev nD) (d : Fin 1024) (e : Fin 512) : rdQ3l m ρ c (ix3 0 d e) = aQ m (bwd c 3) (ix2 d ⟨e.val, by omega⟩) := by
  rw [← WQ_apply m ρ c 3]
  show WQ m ρ c (R3l.toLoadRect.idx (ix3 0 d e)) = _
  congr 1; funext k; apply Fin.ext; fin_cases k <;> simp [Rect.unit, LoadRect.idx] <;> rfl
theorem rdQ3r_apply (c : Dev nD) (d : Fin 1024) (e : Fin 512) : rdQ3r m ρ c (ix3 0 d e) = aQ m (bwd c 3) (ix2 d ⟨512 + e.val, by omega⟩) := by
  rw [← WQ_apply m ρ c 3]
  show WQ m ρ c (R3r.toLoadRect.idx (ix3 0 d e)) = _
  congr 1; funext k; apply Fin.ext; fin_cases k <;> simp [Rect.unit, LoadRect.idx] <;> rfl
theorem rdO0_apply (c : Dev nD) (d : Fin 1024) (e : Fin 1024) : rdO0 m ρ c (ix3 0 d e) = aO m (fwd c 0) (ix2 d e) := by
  rw [← WO_apply m ρ c 0]
  show WO m ρ c (R0.toLoadRect.idx (ix3 0 d e)) = _
  congr 1; funext k; apply Fin.ext; fin_cases k <;> simp [Rect.unit, LoadRect.idx] <;> rfl
theorem rdO2_apply (c : Dev nD) (d : Fin 1024) (e : Fin 1024) : rdO2 m ρ c (ix3 0 d e) = aO m (fwd c 2) (ix2 d e) := by
  rw [← WO_apply m ρ c 2]
  show WO m ρ c (R2.toLoadRect.idx (ix3 0 d e)) = _
  congr 1; funext k; apply Fin.ext; fin_cases k <;> simp [Rect.unit, LoadRect.idx] <;> rfl
theorem rdO3_apply (c : Dev nD) (d : Fin 1024) (e : Fin 1024) : rdO3 m ρ c (ix3 0 d e) = aO m (fwd c 3) (ix2 d e) := by
  rw [← WO_apply m ρ c 3]
  show WO m ρ c (R3.toLoadRect.idx (ix3 0 d e)) = _
  congr 1; funext k; apply Fin.ext; fin_cases k <;> simp [Rect.unit, LoadRect.idx] <;> rfl
theorem rdO1l_apply (c : Dev nD) (d : Fin 512) (e : Fin 1024) : rdO1l m ρ c (ix3 0 d e) = aO m (fwd c 1) (ix2 ⟨d.val, by omega⟩ e) := by
  rw [← WO_apply m ρ c 1]
  show WO m ρ c (RO0.toLoadRect.idx (ix3 0 d e)) = _
  congr 1; funext k; apply Fin.ext; fin_cases k <;> simp [Rect.unit, LoadRect.idx] <;> rfl
theorem rdO1r_apply (c : Dev nD) (d : Fin 512) (e : Fin 1024) : rdO1r m ρ c (ix3 0 d e) = aO m (fwd c 1) (ix2 ⟨512 + d.val, by omega⟩ e) := by
  rw [← WO_apply m ρ c 1]
  show WO m ρ c (RO1.toLoadRect.idx (ix3 0 d e)) = _
  congr 1; funext k; apply Fin.ext; fin_cases k <;> simp [Rect.unit, LoadRect.idx] <;> rfl
theorem rdK_apply (c : Dev nD) (g : Fin 4) (j : Fin 1024) (h : Fin 8) (e : Fin 128) :
    rdK m c g (ix4 0 j h e) = aK m c (ix4 0 j ⟨8 * g.val + h.val, by omega⟩ e) := by
  show aK m c (Cert.Ring.ix4 (RK0.toLoadRect.idx (ix4 0 j h e) 1) g (RK0.toLoadRect.idx (ix4 0 j h e) 2) (RK0.toLoadRect.idx (ix4 0 j h e) 3)) = _
  congr 1; funext k; apply Fin.ext; fin_cases k <;> simp [Rect.unit, LoadRect.idx] <;> rfl
theorem rdV_apply (c : Dev nD) (g : Fin 4) (j : Fin 1024) (h : Fin 8) (e : Fin 128) :
    rdV m c g (ix4 0 j h e) = aV m c (ix4 0 j ⟨8 * g.val + h.val, by omega⟩ e) := by
  show aV m c (Cert.Ring.ix4 (RK1.toLoadRect.idx (ix4 0 j h e) 1) g (RK1.toLoadRect.idx (ix4 0 j h e) 2) (RK1.toLoadRect.idx (ix4 0 j h e) 3)) = _
  congr 1; funext k; apply Fin.ext; fin_cases k <;> simp [Rect.unit, LoadRect.idx] <;> rfl

/-! ## The sums regrouped -/

/-- A sum over `a * b` places by rows of `b`. -/
theorem sum_split {n : Nat} (a b : Nat) (hn : n = a * b) (f : Fin n → EReal) :
    ∑ k, f k = ∑ h : Fin a, ∑ l : Fin b, f ⟨b * h.val + l.val, by rw [hn]; calc b * h.val + l.val < b * h.val + b := by omega
      _ = b * (h.val + 1) := by ring
      _ ≤ b * a := Nat.mul_le_mul_left b h.isLt
      _ = a * b := Nat.mul_comm b a⟩ := by
  subst hn
  rw [← Equiv.sum_comp finProdFinEquiv, Fintype.sum_prod_type]
  refine Finset.sum_congr rfl fun h _ => Finset.sum_congr rfl fun l _ => congrArg f (Fin.ext ?_)
  simp [finProdFinEquiv, Nat.add_comm]

end Cert.Val

end
-- ==== Proof.Finite.lean ====
/-
What the precondition says over the extended reals: each entry it is asked of is a real number.
-/
module

public import proofs.«01_k».proof.Proof.Frames
public import proofs.«01_k».proof.Proof.Arrays
public import Idealize.ShloMosaic.Lib.ReduceAll
public import Idealize.ShloMosaic.Lib.Affine

@[expose] public section

noncomputable section

namespace Cert.Val

open Cert.KernelIdeal
open Idealize.ShloMosaic
open Idealize.ShloMosaic.TcCoe

theorem topB : Ideal.ofBits .bf16 0x7F80#16 = ⊤ := by simp [Ideal.ofBits, Ideal.ieee]
theorem topF : Ideal.ofBits .f32 0x7F800000#32 = ⊤ := by simp [Ideal.ofBits, Ideal.ieee]

/-- An extended real whose absolute value is below plus infinity is a real. -/
theorem real_of_lt (x : EReal) (h : Ideal.cmp .olt (max x (-x)) ⊤ = 1#1) : ∃ a : ℝ, x = (a : EReal) := by
  have hlt : max x (-x) < ⊤ := by
    by_contra hn
    simp [Ideal.cmp, hn] at h
  rw [max_lt_iff] at hlt
  refine ⟨x.toReal, (EReal.coe_toReal hlt.1.ne ?_).symm⟩
  rintro rfl
  simp at hlt

instance : Subsingleton (Cert.Pre_finite_KernelIdeal.S_).Idx := ⟨fun a b => funext fun i => i.elim0⟩

/-- The precondition on a device: its blocks of the activations and the query weights, and its keys, are real. -/
theorem real_entries [Cert.Pre_finite_KernelIdeal.Facts] (x q : (⟨S1024x1024, .bf16⟩ : BufTy).Contents (Elt Ideal)) (k v : (⟨S1x1024x32x128, .f32⟩ : BufTy).Contents (Elt Ideal))
    (o : (⟨S1024x1024, .bf16⟩ : BufTy).Contents (Elt Ideal))
    (h : (Cert.Pre_finite_KernelIdeal.fn (F := Ideal) x q k v o) = fun _ => 1#1) :
    (∀ i, ∃ a : ℝ, x i = (a : EReal)) ∧ (∀ i, ∃ a : ℝ, q i = (a : EReal)) ∧ (∀ i, ∃ a : ℝ, k i = (a : EReal)) := by
  have h0 := congrFun h (Shape.Idx.first (s := Cert.Pre_finite_KernelIdeal.S_) (by decide))
  dsimp only [Cert.Pre_finite_KernelIdeal.fn] at h0
  obtain ⟨h1, hk⟩ := IntOp.andi_eq_one.1 h0
  obtain ⟨hx, hq⟩ := IntOp.andi_eq_one.1 h1
  refine ⟨fun i => ?_, fun i => ?_, fun i => ?_⟩
  · have e := Host.reduce_andi_all _ _ _ _ _ hx i
    refine real_of_lt _ ?_
    rw [← topB]
    exact e
  · have e := Host.reduce_andi_all _ _ _ _ _ hq i
    refine real_of_lt _ ?_
    rw [← topB]
    exact e
  · have e := Host.reduce_andi_all _ _ _ _ _ hk i
    refine real_of_lt _ ?_
    rw [← topF]
    exact e

end Cert.Val

end
-- ==== Proof.KOut.lean ====
/-
The output block of a device over the extended reals: a sum over the four groups of heads, each group's heads and
features in turn.
-/
module

public import proofs.«01_k».proof.Proof.Arrays

@[expose] public section

noncomputable section

namespace Cert.Val

open Cert.KernelIdeal Cert.KernelIdeal.Gen
open Cert.Ring hiding ix2 ix4

open Idealize.ShloMosaic
open Idealize.ShloMosaic.TcCoe

variable (m : (ℓ : Loc nD τ sig) → Buf (Elt Ideal) ℓ) (ρ : Dev nD → PrngReg)

/-- The scale of the scores. -/
abbrev sc : EReal := (((Real.sqrt 128)⁻¹ : ℝ) : EReal)

/-- Row `r`, feature `l` of head `h` of group `g`, on device `c`. -/
def C (c : Dev nD) (g : Dev nD) (r : Fin 1024) (h : Fin 8) (l : Fin 128) : EReal :=
  att (fun j : Fin 1024 => msk c (ix2 r j) = 1#1)
    (fun j => ∑ e : Fin 128, (∑ d : Fin 1024, (aX m c (ix2 r d) * sc) * aQ m g (ix2 d ⟨128 * h.val + e.val, by omega⟩))
      * aK m c (ix4 0 j ⟨8 * g.val + h.val, by have : g.val < 4 := g.isLt; omega⟩ e))
    (fun j => aV m c (ix4 0 j ⟨8 * g.val + h.val, by have : g.val < 4 := g.isLt; omega⟩ l))

/-- What group `g` adds to the output block of device `c`. -/
def T (c : Dev nD) (g : Dev nD) (r n : Fin 1024) : EReal :=
  ∑ h : Fin 8, ∑ l : Fin 128, C m c g r h l * aO m g (ix2 ⟨128 * h.val + l.val, by omega⟩ n)

theorem xsv_apply (c : Dev nD) (r d : Fin 1024) : xsv m ρ c (ix2 r d) = aX m c (ix2 r d) * sc := by
  unfold xsv
  rw [xB_eq]
  pointwise [k0_pay9]
  rfl

theorem group_apply (c g : Dev nD) (rq : Vec Ideal S1x1024x1024 .bf16) (ro : Vec Ideal S1x1024x1024 .bf16)
    (hq : ∀ d e, rq (ix3 0 d e) = aQ m g (ix2 d e)) (ho : ∀ d e, ro (ix3 0 d e) = aO m g (ix2 d e)) (r n : Fin 1024) :
    prj8 (cat8 (msk c) (q8 (xsv m ρ c) rq) (kv8 (rdK m c g)) (kv8 (rdV m c g))) ro (ix2 r n) = T m c g r n := by
  rw [prj8_apply, sum_split 8 128 rfl]
  refine Finset.sum_congr rfl fun h _ => Finset.sum_congr rfl fun l _ => ?_
  rw [cat8_apply, ho]
  simp only [q8_apply, kv8_apply, rdK_apply, rdV_apply, hq, xsv_apply]
  rfl

theorem half_l (c : Dev nD) (r n : Fin 1024) :
    prj4 (cat4l (msk c) (q4 (xsv m ρ c) (rdQ3l m ρ c)) (kv8 (rdK m c (fwd c 1))) (kv8 (rdV m c (fwd c 1)))) (rdO1l m ρ c) (ix2 r n)
      = ∑ h : Fin 4, ∑ l : Fin 128, C m c (fwd c 1) r ⟨h.val, by omega⟩ l * aO m (fwd c 1) (ix2 ⟨128 * h.val + l.val, by omega⟩ n) := by
  rw [prj4_apply, sum_split 4 128 rfl]
  refine Finset.sum_congr rfl fun h _ => Finset.sum_congr rfl fun l _ => ?_
  rw [cat4l_apply]
  simp only [q4_apply, kv8_apply, rdK_apply, rdV_apply, rdQ3l_apply, rdO1l_apply, xsv_apply]
  rw [show bwd c 3 = fwd c 1 from by revert c; decide]
  rfl

theorem half_r (c : Dev nD) (r n : Fin 1024) :
    prj4 (cat4r (msk c) (q4 (xsv m ρ c) (rdQ3r m ρ c)) (kv8 (rdK m c (fwd c 1))) (kv8 (rdV m c (fwd c 1)))) (rdO1r m ρ c) (ix2 r n)
      = ∑ h : Fin 4, ∑ l : Fin 128, C m c (fwd c 1) r ⟨4 + h.val, by omega⟩ l * aO m (fwd c 1) (ix2 ⟨128 * (4 + h.val) + l.val, by omega⟩ n) := by
  rw [prj4_apply, sum_split 4 128 rfl]
  refine Finset.sum_congr rfl fun h _ => Finset.sum_congr rfl fun l _ => ?_
  have e (k : Fin 128) : 512 + (128 * h.val + k.val) = 128 * (4 + h.val) + k.val := by omega
  rw [cat4r_apply]
  simp only [q4_apply, kv8_apply, rdK_apply, rdV_apply, rdQ3r_apply, rdO1r_apply, xsv_apply, e]
  rw [show bwd c 3 = fwd c 1 from by revert c; decide]
  rfl

theorem halves (c : Dev nD) (r n : Fin 1024) :
    (∑ h : Fin 4, ∑ l : Fin 128, C m c (fwd c 1) r ⟨h.val, by omega⟩ l * aO m (fwd c 1) (ix2 ⟨128 * h.val + l.val, by omega⟩ n))
      + (∑ h : Fin 4, ∑ l : Fin 128, C m c (fwd c 1) r ⟨4 + h.val, by omega⟩ l * aO m (fwd c 1) (ix2 ⟨128 * (4 + h.val) + l.val, by omega⟩ n))
      = T m c (fwd c 1) r n := by
  unfold T
  exact (Fin.sum_univ_add (a := 4) (b := 4) (fun h : Fin 8 => ∑ l : Fin 128, C m c (fwd c 1) r h l * aO m (fwd c 1) (ix2 ⟨128 * h.val + l.val, by omega⟩ n))).symm

theorem outV_sum (c : Dev nD) (r n : Fin 1024) :
    outV m ρ c (ix2 r n) = T m c c r n + T m c (fwd c 2) r n + T m c (fwd c 1) r n + T m c (fwd c 3) r n := by
  unfold outV out4 out3 out2 out0
  rw [last_eq, acc_apply, st4_eq, acc_apply, st3_eq, acc_apply, st2_eq, acc_apply, st0_eq, ctx1_eq, half_l, half_r,
    group_apply m ρ c c _ _ (fun d e => by rw [rdQ0_apply, bwd_zero]) (fun d e => by rw [rdO0_apply, show fwd c 0 = c from by revert c; decide]),
    group_apply m ρ c (fwd c 2) _ _ (fun d e => by rw [rdQ2_apply, show bwd c 2 = fwd c 2 from by revert c; decide]) (fun d e => by rw [rdO2_apply]),
    group_apply m ρ c (fwd c 3) _ _ (fun d e => by rw [rdQ1_apply, show bwd c 1 = fwd c 3 from by revert c; decide]) (fun d e => by rw [rdO3_apply]),
    add_assoc (T m c c r n + T m c (fwd c 2) r n), halves]

/-- A sum over the ring in the order a device takes it. -/
theorem ring_sum (f : Dev nD → EReal) (c : Dev nD) : f c + f (fwd c 2) + f (fwd c 1) + f (fwd c 3) = ∑ g : Fin 4, f g := by
  rw [Fin.sum_univ_four]
  have h : ∀ c : Dev nD, (c, fwd c 2, fwd c 1, fwd c 3) = ((0 : Dev nD), (2 : Dev nD), (1 : Dev nD), (3 : Dev nD)) ∨ (c, fwd c 2, fwd c 1, fwd c 3) = ((1 : Dev nD), (3 : Dev nD), (2 : Dev nD), (0 : Dev nD))
      ∨ (c, fwd c 2, fwd c 1, fwd c 3) = ((2 : Dev nD), (0 : Dev nD), (3 : Dev nD), (1 : Dev nD)) ∨ (c, fwd c 2, fwd c 1, fwd c 3) = ((3 : Dev nD), (1 : Dev nD), (0 : Dev nD), (2 : Dev nD)) := by decide
  rcases h c with h | h | h | h <;> simp only [Prod.mk.injEq] at h <;> obtain ⟨h1, h2, h3, h4⟩ := h <;> rw [h2, h3, h4, h1] <;> ac_rfl

/-- The output block at an index: the groups in order. -/
theorem outV_apply (c : Dev nD) (r n : Fin 1024) : outV m ρ c (ix2 r n) = ∑ g : Fin 4, T m c g r n :=
  (outV_sum m ρ c r n).trans (ring_sum (fun g => T m c g r n) c)

/-- What the result array of a device holds after the run. -/
theorem finalA_out (c : Dev nD) : finalA m ρ c (3 : Fin 4) = outV m ρ c := by
  have hr : (win0_3.blk (0 : Fin 1)).view.read (Elt Ideal) (finalA m ρ c (3 : Fin 4)) = outV m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt Ideal) main_v1 hz (fun a => by fin_cases a <;> decide) _).symm.trans hr

end Cert.Val

end
-- ==== Proof.Mask.lean ====
/-
Which key positions a query position attends to: the kernel's words and the reference's words, both as a statement
about block numbers.
-/
module

public import proofs.«01_k».proof.Proof.Stages
public import Idealize.ShloMosaic.Lib.Pointwise

@[expose] public section

noncomputable section

namespace Cert.Val

open Cert.KernelIdeal Cert.KernelIdeal.Gen
open Cert.Ring hiding ix2 ix4

open Idealize.ShloMosaic
open Idealize.ShloMosaic.TcCoe

/-- Query position `r` attends to key position `j`: the same block of 64, the first block, or block numbers whose sum
    is a multiple of three. -/
def keepN (r j : Nat) : Prop := r / 64 = j / 64 ∨ j / 64 = 0 ∨ (r / 64 + j / 64) % 3 = 0

instance (r j : Nat) : Decidable (keepN r j) := by unfold keepN; infer_instance

theorem keepN_zero (r : Nat) : keepN r 0 := Or.inr (Or.inl rfl)

theorem div64 (u : ArithUnit) (x : BitVec 32) : IntOp.divsi u x 64#32 = x.sdiv 64#32 := if_neg (by simp [IntOp.SDivCorner])
theorem rem64 (u : ArithUnit) (x : BitVec 32) : IntOp.remsi u x 64#32 = x.srem 64#32 := if_neg (by simp [IntOp.SDivCorner])
theorem rem3 (u : ArithUnit) (x : BitVec 32) : IntOp.remsi u x 3#32 = x.srem 3#32 := if_neg (by simp [IntOp.SDivCorner])

/-- The quotient by 64 towards minus infinity, as the kernel's words make it. -/
def fdivK (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem split64 {P : Nat → Prop} (h : ∀ a b : Fin 64, P (64 * a.val + b.val)) (n : Nat) (hn : n < 4096) : P n := by
  have := h ⟨n / 64, by omega⟩ ⟨n % 64, by omega⟩
  rwa [show 64 * (n / 64) + n % 64 = n from Nat.div_add_mod n 64] at this

theorem fdivK_eq (n : Nat) (hn : n < 4096) : fdivK (BitVec.ofNat 32 n) = BitVec.ofNat 32 (n / 64) := by
  revert n
  refine split64 ?_
  unfold fdivK
  simp only [div64, rem64]
  decide +kernel

/-- The mask's word from the two block numbers' words. -/
def maskW (u : ArithUnit) (a b : BitVec 32) : BitVec 1 :=
  IntOp.ori (IntOp.ori (IntOp.cmpi CmpIPredicate.eq a b) (IntOp.cmpi CmpIPredicate.eq b 0#32))
    (IntOp.cmpi CmpIPredicate.eq (IntOp.remsi u (IntOp.addi a b) 3#32) 0#32)

theorem maskW_eq (u : ArithUnit) (r j : Nat) (hr : r < 4096) (hj : j < 1024) :
    maskW u (BitVec.ofNat 32 (r / 64)) (BitVec.ofNat 32 (j / 64)) = 1#1 ↔ keepN r j := by
  have h : ∀ a : Fin 64, ∀ b : Fin 16, maskW u (BitVec.ofNat 32 a.val) (BitVec.ofNat 32 b.val) = 1#1 ↔ (a.val = b.val ∨ b.val = 0 ∨ (a.val + b.val) % 3 = 0) := by
    unfold maskW
    simp only [rem3]
    decide +kernel
  exact h ⟨r / 64, by omega⟩ ⟨j / 64, by omega⟩

theorem rowW_eq (c : Dev nD) (r : Fin 1024) :
    IntOp.addi (BitVec.ofNat 32 r.val) (Scalar.muli (Scalar.remsi (Scalar.divsi c.word 1#32) 4#32) 1024#32) = BitVec.ofNat 32 (1024 * c.val + r.val) := by
  have h : ∀ c : Dev nD, Scalar.muli (Scalar.remsi (Scalar.divsi c.word 1#32) 4#32) 1024#32 = BitVec.ofNat 32 (1024 * c.val) := by decide
  rw [h c, IntOp.addi, ← BitVec.ofNat_add, Nat.add_comm]

/-- The kernel's mask on device `c`. -/
theorem msk_keep (c : Dev nD) (r l : Fin 1024) : msk c (ix2 r l) = 1#1 ↔ keepN (1024 * c.val + r.val) l.val := by
  have hc : c.val < 4 := c.isLt
  have e : msk c (ix2 r l) = maskW ArithUnit.vector (fdivK (BitVec.ofNat 32 (1024 * c.val + r.val))) (fdivK (BitVec.ofNat 32 l.val)) := by
    rw [← rowW_eq]
    pointwise [msk, k0_pay3, k0_pay4, k0_pay5, k0_pay6, k0_pay7, k0_pay8]
    rfl
  rw [e, fdivK_eq _ (by omega), fdivK_eq _ (by omega)]
  exact maskW_eq _ _ _ (by omega) (by omega)

end Cert.Val

end
-- ==== Proof.RMask.lean ====
/-
The reference's mask at an index: the same statement about block numbers as the kernel's, and every row keeps a key.
-/
module

public import proofs.«01_k».proof.Proof.Mask
public import proofs.«01_k».proof.Proof.Gen.ReferenceIdeal.Read

@[expose] public section

noncomputable section

namespace Cert.Val

open Cert.ReferenceIdeal Cert.ReferenceIdeal.Gen Cert.ReferenceIdeal.Read

open Idealize.ShloMosaic
open Idealize.ShloMosaic.TcCoe
open Idealize.ShloMosaic.StableHlo

/-- The sign of a word. -/
def sgnW (x : BitVec 32) : BitVec 32 := if x = 0 then 0 else if x.msb then -1 else 1

/-- The quotient by 64 towards minus infinity, as the reference's words make it. -/
def fdivR (x : BitVec 32) : BitVec 32 :=
  Scalar.select
    (IntOp.andi (IntOp.cmpi .ne (sgnW x) (sgnW 64#32)) (IntOp.cmpi .ne (IntOp.remsi .host x 64#32) 0#32))
    (IntOp.subi (IntOp.divsi .host x 64#32) 1#32)
    (IntOp.divsi .host x 64#32)

theorem fdivR_eq (n : Nat) (hn : n < 4096) : fdivR (BitVec.ofNat 32 n) = BitVec.ofNat 32 (n / 64) := by
  revert n
  refine split64 ?_
  unfold fdivR
  simp only [div64, rem64]
  decide +kernel

/-- The remainder by 3 with the divisor's sign, as the reference's words make it. -/
def fremR (x : BitVec 32) : BitVec 32 :=
  Scalar.select
    (IntOp.andi (IntOp.cmpi .ne (IntOp.cmpi .slt (IntOp.remsi .host x 3#32) 0#32) (IntOp.cmpi .slt 3#32 0#32))
      (IntOp.cmpi .ne (IntOp.remsi .host x 3#32) 0#32))
    (IntOp.addi (IntOp.remsi .host x 3#32) 3#32)
    (IntOp.remsi .host x 3#32)

/-- The reference's mask word from the two block numbers' words. -/
def maskR (a b : BitVec 32) : BitVec 1 :=
  IntOp.ori (IntOp.ori (IntOp.cmpi .eq a b) (IntOp.cmpi .eq b 0#32)) (IntOp.cmpi .eq (fremR (IntOp.addi a b)) 0#32)

theorem maskR_eq (r j : Nat) (hr : r < 4096) (hj : j < 1024) :
    maskR (BitVec.ofNat 32 (r / 64)) (BitVec.ofNat 32 (j / 64)) = 1#1 ↔ keepN r j := by
  have h : ∀ a : Fin 64, ∀ b : Fin 16, maskR (BitVec.ofNat 32 a.val) (BitVec.ofNat 32 b.val) = 1#1 ↔ (a.val = b.val ∨ b.val = 0 ∨ (a.val + b.val) % 3 = 0) := by
    unfold maskR fremR
    simp only [rem3]
    decide +kernel
  exact h ⟨r / 64, by omega⟩ ⟨j / 64, by omega⟩

theorem qblk (i : S4096.Idx) : val_main_v7 (F := Ideal) i = BitVec.ofNat 32 ((i 0).val / 64) := by
  rw [← fdivR_eq (i 0).val (i 0).isLt]
  simp only [val_main_v7_apply, val_main_call0_v11_apply, val_main_call0_v13_apply, val_main_call0_v2_apply, val_main_call0_v6_apply,
    val_main_call0_v10_apply, val_main_call0_v8_apply, val_main_call0_v5_apply, val_main_call0_v9_apply, val_main_call0_v12_apply,
    val_main_call0_v7_apply, val_main_call0_v1_apply, val_main_call0_v0_apply, val_main_call0_c_apply, val_main_call0_c_0_apply,
    val_main_c_apply, val_main_v6_apply, val_main_call0_v3, val_main_call0_v4]
  rfl

theorem kblk (i : S1024.Idx) : val_main_v10 (F := Ideal) i = BitVec.ofNat 32 ((i 0).val / 64) := by
  have h : (i 0).val < 1024 := (i 0).isLt
  rw [← fdivR_eq (i 0).val (by omega)]
  simp only [val_main_v10_apply, val_main_call1_v11_apply, val_main_call1_v13_apply, val_main_call1_v2_apply, val_main_call1_v6_apply,
    val_main_call1_v10_apply, val_main_call1_v8_apply, val_main_call1_v5_apply, val_main_call1_v9_apply, val_main_call1_v12_apply,
    val_main_call1_v7_apply, val_main_call1_v1_apply, val_main_call1_v0_apply, val_main_call1_c_apply, val_main_call1_c_0_apply,
    val_main_c_0_apply, val_main_v9_apply, val_main_call1_v3, val_main_call1_v4]
  rfl

/-- The reference's mask. -/
theorem refmask (i : S4096x1024.Idx) : val_main_v25 (F := Ideal) i = 1#1 ↔ keepN (i 0).val (i 1).val := by
  have h0 : (i 0).val < 4096 := (i 0).isLt
  have h1 : (i 1).val < 1024 := (i 1).isLt
  rw [← maskR_eq _ _ h0 h1]
  refine Eq.congr_left ?_
  simp only [val_main_v25_apply, val_main_v18_apply, val_main_v14_apply, val_main_v12_apply, val_main_v8_apply, val_main_v13_apply,
    val_main_v11_apply, val_main_v17_apply, val_main_v16_apply, val_main_v15_apply, val_main_c_1_apply, val_main_v24_apply,
    val_main_v23_apply, val_main_c_3_apply, val_main_v22_apply, val_main_call2_v12_apply, val_main_call2_v11_apply,
    val_main_call2_v10_apply, val_main_call2_v9_apply, val_main_call2_c_3_apply, val_main_call2_v8_apply, val_main_call2_v7_apply,
    val_main_call2_c_2_apply, val_main_call2_v6_apply, val_main_call2_v5_apply, val_main_call2_c_1_apply, val_main_call2_v14_apply,
    val_main_call2_v13_apply, val_main_call2_v4_apply, val_main_call2_v3_apply, val_main_call2_v2_apply, val_main_call2_v1_apply,
    val_main_call2_c_0_apply, val_main_call2_c_apply, val_main_call2_v0_apply, val_main_c_2_apply, val_main_v21_apply,
    val_main_v20_apply, val_main_v19_apply, qblk, kblk]
  rfl

theorem fold_ori_one {n : Nat} (f : Fin n → BitVec 1) (b : BitVec 1) (j : Fin n) (h : f j = 1#1) :
    (Finset.univ : Finset (Fin n)).fold IntOp.ori b f = 1#1 := by
  rw [← Finset.insert_erase (Finset.mem_univ j), Finset.fold_insert (Finset.notMem_erase _ _), h]
  generalize Finset.fold IntOp.ori b f _ = y
  revert y
  decide

/-- Every query position keeps a key. -/
theorem rowkeep (i : S4096.Idx) : val_main_v37 (F := Ideal) i = 1#1 := by
  unfold val_main_v37
  rw [Host.reduce_eq_fold_single IntOp.ori _ _ reducesTo_S4096x1024_S4096_d1 (by decide) h_S_ i]
  refine fold_ori_one _ _ (⟨0, by decide⟩ : Fin 1024) ?_
  exact (refmask _).2 (keepN_zero _)

end Cert.Val

end
-- ==== Proof.RRead.lean ====
/-
The reference's stages at an index, up to each head's attention.
-/
module

public import proofs.«01_k».proof.Proof.RMask
public import proofs.«01_k».proof.Proof.Attn

@[expose] public section

noncomputable section

namespace Cert.Val

open Cert.ReferenceIdeal Cert.ReferenceIdeal.Gen Cert.ReferenceIdeal.Read

open Idealize.ShloMosaic
open Idealize.ShloMosaic.TcCoe
open Idealize.ShloMosaic.StableHlo

section
variable (x0 : (⟨S4096x1024, .bf16⟩ : BufTy).Contents (Elt Ideal)) (x1 : (⟨S1024x4096, .bf16⟩ : BufTy).Contents (Elt Ideal))
  (x2 x3 : (⟨S1x1024x32x128, .f32⟩ : BufTy).Contents (Elt Ideal)) (x4 : (⟨S4096x1024, .bf16⟩ : BufTy).Contents (Elt Ideal))

theorem rproj (r : Fin 4096) (k : Fin 4096) :
    val_main_v4 (F := Ideal) x0 x1 (ix3 (0 : Fin 1) r k) = ∑ d : Fin 1024, x0 (ix2 r d) * x1 (ix2 d k) := by
  rw [val_main_v4_apply]
  refine Finset.sum_congr rfl fun d _ => ?_
  rw [val_main_v1_apply, val_main_v0_apply]
  show x0 _ * x1 _ = _
  refine congrArg₂ (fun a b => x0 a * x1 b) (funext fun a => ?_) (funext fun a => ?_)
  · match a with | ⟨0, _⟩ => rfl | ⟨1, _⟩ => rfl
  · match a with | ⟨0, _⟩ => rfl | ⟨1, _⟩ => rfl

theorem rquery (r : Fin 4096) (h : Fin 32) (e : Fin 128) :
    val_main_v5 (F := Ideal) x0 x1 (ix4 (0 : Fin 1) r h e) = ∑ d : Fin 1024, x0 (ix2 r d) * x1 (ix2 d (⟨128 * h.val + e.val, by omega⟩ : Fin 4096)) := by
  rw [← rproj, val_main_v5_apply]
  refine congrArg (val_main_v4 (F := Ideal) x0 x1) (funext fun a => Fin.ext ?_)
  match a with
  | ⟨0, _⟩ => rfl
  | ⟨1, _⟩ => show (((0 * 4096 + r.val) * 32 + h.val) * 128 + e.val) / 4096 % 4096 = r.val; omega
  | ⟨2, _⟩ => show (((0 * 4096 + r.val) * 32 + h.val) * 128 + e.val) % 4096 = 128 * h.val + e.val; omega

/-- The scaled score of query position `r` and key position `j` in head `h`. -/
def RS (h : Fin 32) (r : Fin 4096) (j : Fin 1024) : EReal :=
  Ideal.div (∑ e : Fin 128, (∑ d : Fin 1024, x0 (ix2 r d) * x1 (ix2 d (⟨128 * h.val + e.val, by omega⟩ : Fin 4096))) * x2 (ix4 (0 : Fin 1) j h e))
    ((Real.sqrt 128 : ℝ) : EReal)

theorem root128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num)]

theorem rscore (h : Fin 32) (r : Fin 4096) (j : Fin 1024) :
    val_main_v29 (F := Ideal) x0 x1 x2 (ix4 (0 : Fin 1) h r j) = RS x0 x1 x2 h r j := by
  rw [val_main_v29_apply, val_main_v28_apply, val_main_v27_apply, val_main_cst_apply]
  show Ideal.div _ (Ideal.sqrt (Ideal.ofBits .f32 0x43000000#32)) = _
  rw [root128, RS, val_main_v26_apply]
  refine congrArg (Ideal.div · _) (Finset.sum_congr rfl fun e _ => ?_)
  rw [← rquery]
  refine congrArg₂ (fun a b => val_main_v5 (F := Ideal) x0 x1 a * x2 b) (funext fun a => ?_) (funext fun a => ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

theorem negInf : Ideal.ofBits .f32 0xFF800000#32 = ⊥ := by simp [Ideal.ofBits, Ideal.ieee]

/-- The score where the mask keeps the key, minus infinity elsewhere. -/
def RM (h : Fin 32) (r : Fin 4096) (j : Fin 1024) : EReal := if keepN r.val j.val then RS x0 x1 x2 h r j else ⊥

theorem rmasked (h : Fin 32) (r : Fin 4096) (j : Fin 1024) :
    val_main_v31 (F := Ideal) x0 x1 x2 (ix4 (0 : Fin 1) h r j) = RM x0 x1 x2 h r j := by
  rw [val_main_v31_apply, rscore, val_main_call3_v2_apply, val_main_call3_v0_apply, val_main_cst_4_apply]
  show Scalar.select _ _ (Ideal.ofBits .f32 0xFF800000#32) = _
  rw [negInf, RM, val_main_call3_v1_apply, val_main_v30_apply]
  have hk := refmask (ix2 r j)
  refine if_congr (Iff.trans (Eq.congr_left (congrArg _ (funext fun a => ?_))) hk) rfl rfl
  match a with | ⟨0, _⟩ => rfl | ⟨1, _⟩ => rfl

theorem rmax (h : Fin 32) (r : Fin 4096) :
    val_main_v32 (F := Ideal) x0 x1 x2 (ix3 (0 : Fin 1) h r) = (Finset.univ : Finset (Fin 1024)).fold max ⊥ (RM x0 x1 x2 h r) := by
  unfold val_main_v32
  rw [Host.reduce_eq_fold_single _ _ _ reducesTo_S1x32x4096x1024_S1x32x4096_d3 (by decide) h_S_, val_main_cst_5_apply]
  show Finset.fold max (Ideal.ofBits .f32 0xFF800000#32) _ (Finset.univ : Finset (Fin 1024)) = _
  rw [negInf]
  refine congrArg (fun f => Finset.fold max ⊥ f _) (funext fun j => ?_)
  refine Eq.trans ?_ (rmasked x0 x1 x2 h r j)
  refine congrArg (val_main_v31 (F := Ideal) x0 x1 x2) (funext fun a => Fin.ext ?_)
  match a with | ⟨0, _⟩ => rfl | ⟨1, _⟩ => rfl | ⟨2, _⟩ => rfl | ⟨3, _⟩ => rfl

/-- The exponential of a masked score after the subtraction of the row's maximum. -/
def RE (h : Fin 32) (r : Fin 4096) (j : Fin 1024) : EReal :=
  Ideal.exp (RM x0 x1 x2 h r j - (Finset.univ : Finset (Fin 1024)).fold max ⊥ (RM x0 x1 x2 h r))

theorem rexp (h : Fin 32) (r : Fin 4096) (j : Fin 1024) :
    val_main_v36 (F := Ideal) x0 x1 x2 (ix4 (0 : Fin 1) h r j) = RE x0 x1 x2 h r j := by
  rw [val_main_v36_apply, val_main_v35_apply, rmasked, val_main_v34_apply, val_main_v33_apply, RE, ← rmax]
  show Ideal.exp (_ - _) = _
  refine congrArg (fun q => Ideal.exp (_ - val_main_v32 (F := Ideal) x0 x1 x2 q)) (funext fun a => ?_)
  match a with | ⟨0, _⟩ => rfl | ⟨1, _⟩ => rfl | ⟨2, _⟩ => rfl

theorem rsum (h : Fin 32) (r : Fin 4096) :
    val_main_v39 (F := Ideal) x0 x1 x2 (ix3 (0 : Fin 1) h r) = ∑ j : Fin 1024, RE x0 x1 x2 h r j := by
  rw [val_main_v39_apply, val_main_cst_7_apply]
  show Ideal.ofBits .f32 0x00000000#32 + _ = _
  rw [Ideal.ofBits_zero_f32, zero_add]
  refine Finset.sum_congr rfl fun j _ => ?_
  rw [← rexp]
  refine congrArg (val_main_v36 (F := Ideal) x0 x1 x2) (funext fun a => ?_)
  match a with | ⟨0, _⟩ => rfl | ⟨1, _⟩ => rfl | ⟨2, _⟩ => rfl | ⟨3, _⟩ => rfl

theorem rweight (h : Fin 32) (r : Fin 4096) (j : Fin 1024) :
    val_main_v45 (F := Ideal) x0 x1 x2 (ix4 (0 : Fin 1) h r j) = Ideal.div (RE x0 x1 x2 h r j) (∑ k : Fin 1024, RE x0 x1 x2 h r k) := by
  rw [val_main_v45_apply, val_main_call5_v1_apply, val_main_v44_apply, rowkeep, val_main_v43_apply, rexp, val_main_v42_apply,
    val_main_v41_apply, val_main_call4_v1_apply, val_main_v38_apply, rowkeep, val_main_v40_apply, ← rsum]
  show Ideal.div _ _ = _
  refine congrArg (fun q => Ideal.div _ (val_main_v39 (F := Ideal) x0 x1 x2 q)) (funext fun a => ?_)
  match a with | ⟨0, _⟩ => rfl | ⟨1, _⟩ => rfl | ⟨2, _⟩ => rfl

/-- Head `h` of the reference's attention. -/
theorem rhead (h : Fin 32) (r : Fin 4096) (l : Fin 128) :
    val_main_v46 (F := Ideal) x0 x1 x2 x3 (ix4 (0 : Fin 1) h l r)
      = Cert.Ring.att' (fun j : Fin 1024 => keepN r.val j.val) (RS x0 x1 x2 h r) (fun j => x3 (ix4 (0 : Fin 1) j h l)) := by
  rw [val_main_v46_apply, Cert.Ring.att']
  refine Finset.sum_congr rfl fun j _ => ?_
  refine congrArg₂ (· * ·) (congrArg x3 (funext fun a => ?_)) (Eq.trans (congrArg _ (funext fun a => ?_)) (rweight x0 x1 x2 h r j))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

end

end Cert.Val

end
-- ==== Proof.ROut.lean ====
/-
The reference's result at an index: the sum over groups, heads of a group and columns of a head.
-/
module

public import proofs.«01_k».proof.Proof.RRead
public import proofs.«01_k».proof.Proof.Arrays

@[expose] public section

noncomputable section

namespace Cert.Val

open Cert.ReferenceIdeal Cert.ReferenceIdeal.Gen Cert.ReferenceIdeal.Read

open Idealize.ShloMosaic
open Idealize.ShloMosaic.TcCoe
open Idealize.ShloMosaic.StableHlo

section
variable (x0 : (⟨S4096x1024, .bf16⟩ : BufTy).Contents (Elt Ideal)) (x1 : (⟨S1024x4096, .bf16⟩ : BufTy).Contents (Elt Ideal))
  (x2 x3 : (⟨S1x1024x32x128, .f32⟩ : BufTy).Contents (Elt Ideal)) (x4 : (⟨S4096x1024, .bf16⟩ : BufTy).Contents (Elt Ideal))

/-- The reference's attention of head `h` at row `r` and column `l` of the head. -/
def RC (h : Fin 32) (r : Fin 4096) (l : Fin 128) : EReal :=
  Cert.Ring.att' (fun j : Fin 1024 => keepN r.val j.val) (RS x0 x1 x2 h r) (fun j => x3 (ix4 (0 : Fin 1) j h l))

theorem rctx (r : Fin 4096) (k : Fin 4096) (h : Fin 32) (l : Fin 128) (hk : k.val = 128 * h.val + l.val) :
    val_main_v48 (F := Ideal) x0 x1 x2 x3 (ix3 (0 : Fin 1) r k) = RC x0 x1 x2 x3 h r l := by
  rw [RC, ← rhead, val_main_v48_apply, val_main_v47_apply]
  refine congrArg (val_main_v46 (F := Ideal) x0 x1 x2 x3) (funext fun a => Fin.ext ?_)
  match a with
  | ⟨0, _⟩ => rfl
  | ⟨1, _⟩ => show ((0 * 4096 + r.val) * 4096 + k.val) / 128 % 32 = h.val; omega
  | ⟨2, _⟩ => show ((0 * 4096 + r.val) * 4096 + k.val) % 128 = l.val; omega
  | ⟨3, _⟩ => show ((0 * 4096 + r.val) * 4096 + k.val) / 4096 % 4096 = r.val; omega

theorem rout (r : Fin 4096) (n : Fin 1024) :
    val_main_v50 (F := Ideal) x0 x1 x2 x3 x4 (ix2 r n)
      = ∑ k : Fin 4096, val_main_v48 (F := Ideal) x0 x1 x2 x3 (ix3 (0 : Fin 1) r k) * x4 (ix2 k n) := by
  rw [val_main_v50_apply, val_main_v49_apply]
  refine Finset.sum_congr rfl fun k _ => ?_
  rw [val_main_v3_apply]
  show _ * x4 _ = _
  refine congrArg₂ (fun a b => val_main_v48 (F := Ideal) x0 x1 x2 x3 a * x4 b) (funext fun a => Fin.ext ?_) (funext fun a => Fin.ext ?_)
  · match a with
    | ⟨0, _⟩ => rfl
    | ⟨1, _⟩ => show (r.val * 1024 + n.val) / 1024 % 4096 = r.val; omega
    | ⟨2, _⟩ => rfl
  · match a with
    | ⟨0, _⟩ => rfl
    | ⟨1, _⟩ => show (r.val * 1024 + n.val) % 1024 = n.val; omega

/-- The reference's result, the columns of the last product in the order of groups, heads and columns of a head. -/
theorem rout_groups (r : Fin 4096) (n : Fin 1024) :
    val_main_v50 (F := Ideal) x0 x1 x2 x3 x4 (ix2 r n)
      = ∑ g : Fin 4, ∑ h : Fin 8, ∑ l : Fin 128, RC x0 x1 x2 x3 ⟨8 * g.val + h.val, by omega⟩ r l
          * x4 (ix2 (⟨1024 * g.val + (128 * h.val + l.val), by omega⟩ : Fin 4096) n) := by
  rw [rout, sum_split 4 1024 rfl]
  refine Finset.sum_congr rfl fun g _ => ?_
  rw [sum_split 8 128 rfl]
  refine Finset.sum_congr rfl fun h _ => Finset.sum_congr rfl fun l _ => ?_
  rw [rctx x0 x1 x2 x3 r _ ⟨8 * g.val + h.val, by omega⟩ l (by show 1024 * g.val + (128 * h.val + l.val) = 128 * (8 * g.val + h.val) + l.val; omega)]

end

end Cert.Val

end
-- ==== Proof.Value.lean ====
/-
The value claim: each device's output block is its rows of the reference's result.
-/
module

public import proofs.«01_k».proof.Proof.Finite
public import proofs.«01_k».proof.Proof.KOut
public import proofs.«01_k».proof.Proof.ROut

@[expose] public section

noncomputable section

namespace Cert.Val

open Cert.KernelIdeal Cert.KernelIdeal.Gen
open Cert.Ring hiding ix2 ix4

open Idealize.ShloMosaic Idealize.ShloMosaic.TcCoe Idealize.SL.Sem

theorem att_congr {n : Nat} (p q : Fin n → Prop) [DecidablePred p] [DecidablePred q] (h : ∀ j, p j ↔ q j) (σ v : Fin n → EReal) :
    att p σ v = att q σ v := by
  have e (j : Fin n) (x : EReal) : (if p j then x else 0) = if q j then x else 0 := if_congr (h j) rfl rfl
  unfold att
  simp only [e]

variable (m : (ℓ : Loc nD τ sig) → Buf (Elt Ideal) ℓ) (ρ : Dev nD → PrngReg)

/-- The devices' arguments are their parts of the whole arrays. -/
structure Parts (X : (⟨Cert.ReferenceIdeal.S4096x1024, .bf16⟩ : BufTy).Contents (Elt Ideal)) (Q : (⟨Cert.ReferenceIdeal.S1024x4096, .bf16⟩ : BufTy).Contents (Elt Ideal))
    (K V : (⟨Cert.ReferenceIdeal.S1x1024x32x128, .f32⟩ : BufTy).Contents (Elt Ideal)) (O : (⟨Cert.ReferenceIdeal.S4096x1024, .bf16⟩ : BufTy).Contents (Elt Ideal)) : Prop where
  x (c : Dev nD) (r d : Fin 1024) (R : Fin 4096) : R.val = 1024 * c.val + r.val → aX m c (ix2 r d) = X (ix2 R d)
  q (c : Dev nD) (d k : Fin 1024) (k' : Fin 4096) : k'.val = 1024 * c.val + k.val → aQ m c (ix2 d k) = Q (ix2 d k')
  k (c : Dev nD) : aK m c = K
  v (c : Dev nD) : aV m c = V
  o (c : Dev nD) (k n : Fin 1024) (k' : Fin 4096) : k'.val = 1024 * c.val + k.val → aO m c (ix2 k n) = O (ix2 k' n)
  xr (c : Dev nD) (i) : ∃ a : ℝ, aX m c i = (a : EReal)
  qr (c : Dev nD) (i) : ∃ a : ℝ, aQ m c i = (a : EReal)
  kr (c : Dev nD) (i) : ∃ a : ℝ, aK m c i = (a : EReal)

section
variable {m}
variable {X : (⟨Cert.ReferenceIdeal.S4096x1024, .bf16⟩ : BufTy).Contents (Elt Ideal)} {Q : (⟨Cert.ReferenceIdeal.S1024x4096, .bf16⟩ : BufTy).Contents (Elt Ideal)}
  {K V : (⟨Cert.ReferenceIdeal.S1x1024x32x128, .f32⟩ : BufTy).Contents (Elt Ideal)} {O : (⟨Cert.ReferenceIdeal.S4096x1024, .bf16⟩ : BufTy).Contents (Elt Ideal)}

/-- One head on a device is that head of the reference at the device's rows. -/
theorem head_eq (P : Parts m X Q K V O) (c g : Dev nD) (r : Fin 1024) (h : Fin 8) (l : Fin 128) (R : Fin 4096) (H : Fin 32)
    (hR : R.val = 1024 * c.val + r.val) (hH : H.val = 8 * g.val + h.val) : C m c g r h l = RC X Q K V H R l := by
  have hg : g.val < 4 := g.isLt
  have eH : (⟨8 * g.val + h.val, by omega⟩ : Fin 32) = H := Fin.ext hH.symm
  choose xr hx using P.xr c
  choose qr hq using P.qr g
  choose kr hk using P.kr c
  have ht : Real.sqrt 128 ≠ 0 := by positivity
  have s := fun j : Fin 1024 => score_eq (fun d : Fin 1024 => xr (ix2 r d)) (fun d (e : Fin 128) => qr (ix2 d ⟨128 * h.val + e.val, by omega⟩))
    (fun e : Fin 128 => kr (ix4 0 j H e)) (Real.sqrt 128) ht
  have eS : RS X Q K H R = fun j => ((∑ e : Fin 128, (∑ d : Fin 1024, (xr (ix2 r d) * (Real.sqrt 128)⁻¹) * qr (ix2 d ⟨128 * h.val + e.val, by omega⟩)) * kr (ix4 0 j H e) : ℝ) : EReal) := by
    funext j
    rw [← (s j).2, RS]
    refine congrArg (Ideal.div · _) (Finset.sum_congr rfl fun e _ => ?_)
    rw [← hk, P.k]
    refine congrArg (· * _) (Finset.sum_congr rfl fun d _ => ?_)
    rw [← hx, ← hq, P.x c r d R hR, P.q g d _ ⟨128 * H.val + e.val, by omega⟩ (by show 128 * H.val + e.val = 1024 * g.val + (128 * h.val + e.val); omega)]
  have eK : (fun j : Fin 1024 => ∑ e : Fin 128, (∑ d : Fin 1024, (aX m c (ix2 r d) * sc) * aQ m g (ix2 d ⟨128 * h.val + e.val, by omega⟩)) * aK m c (ix4 0 j H e))
      = fun j => ((∑ e : Fin 128, (∑ d : Fin 1024, (xr (ix2 r d) * (Real.sqrt 128)⁻¹) * qr (ix2 d ⟨128 * h.val + e.val, by omega⟩)) * kr (ix4 0 j H e) : ℝ) : EReal) := by
    funext j
    rw [← (s j).1]
    simp only [hx, hq, hk]
  unfold C RC
  simp only [eH]
  rw [eK, eS, P.v, att_congr _ (fun j : Fin 1024 => keepN R.val j.val) (fun j => by rw [hR]; exact msk_keep c r j)]
  exact att_eq (fun j : Fin 1024 => keepN R.val j.val) _ _ ⟨⟨0, by decide⟩, keepN_zero _⟩

/-- An output block at an index is the reference's result at the device's row. -/
theorem out_eq (P : Parts m X Q K V O) (c : Dev nD) (r n : Fin 1024) (R : Fin 4096) (hR : R.val = 1024 * c.val + r.val) :
    outV m ρ c (ix2 r n) = Cert.ReferenceIdeal.Read.val_main_v50 (F := Ideal) X Q K V O (ix2 R n) := by
  rw [outV_apply, rout_groups]
  refine Finset.sum_congr rfl fun g _ => Finset.sum_congr rfl fun h _ => Finset.sum_congr rfl fun l _ => ?_
  rw [head_eq P c g r h l R ⟨8 * g.val + h.val, by omega⟩ hR rfl, P.o g _ n ⟨1024 * g.val + (128 * h.val + l.val), by omega⟩ rfl]

end

theorem algebraic : Cert.algebraic_KernelIdeal_ReferenceIdeal_pre_finite_KernelIdeal (hPre_finite_KernelIdeal := factsK) := by
  intro m g m' g' hpre hag
  haveI := factsK
  have P : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c r d R hR => (congrFun (hag c).1 (ix2 r d)).trans (congrArg (m' (((0 : Dev Cert.ReferenceIdeal.nD).tc : Thread Cert.ReferenceIdeal.nD Cert.ReferenceIdeal.τ).loc Cert.ReferenceIdeal.main_arg0)) (funext fun a => Fin.ext ?_)),
      fun c d k k' hk => (congrFun (hag c).2.1 (ix2 d k)).trans (congrArg (m' (((0 : Dev Cert.ReferenceIdeal.nD).tc : Thread Cert.ReferenceIdeal.nD Cert.ReferenceIdeal.τ).loc Cert.ReferenceIdeal.main_arg1)) (funext fun a => Fin.ext ?_)),
      fun c => (hag c).2.2.1, fun c => (hag c).2.2.2.1,
      fun c k n k' hk => (congrFun (hag c).2.2.2.2 (ix2 k n)).trans (congrArg (m' (((0 : Dev Cert.ReferenceIdeal.nD).tc : Thread Cert.ReferenceIdeal.nD Cert.ReferenceIdeal.τ).loc Cert.ReferenceIdeal.main_arg4)) (funext fun a => Fin.ext ?_)),
      fun c => (real_entries _ _ _ _ _ (hpre c)).1, fun c => (real_entries _ _ _ _ _ (hpre c)).2.1,
      fun c => (real_entries _ _ _ _ _ (hpre c)).2.2⟩
    · match a with
      | ⟨0, _⟩ => show c.val * 1024 + r.val = R.val; omega
      | ⟨1, _⟩ => rfl
    · match a with
      | ⟨0, _⟩ => rfl
      | ⟨1, _⟩ => show c.val * 1024 + k.val = k'.val; omega
    · match a with
      | ⟨0, _⟩ => show c.val * 1024 + k.val = k'.val; omega
      | ⟨1, _⟩ => rfl
  refine ⟨Cert.ReferenceIdeal.Value.res_main_v50 m' 0, ?_, ?_⟩
  · refine (θ_run Cert.KernelIdeal.defs _ _).mono (fun r hr c => ⟨?_, ((hr.1 c).1 (0 : Fin 4)).trans (finalA_x m g c),
      ((hr.1 c).1 (1 : Fin 4)).trans (finalA_wq m g c), (hr.1 c).2.1, (hr.1 c).2.2,
      ((hr.1 c).1 (2 : Fin 4)).trans (finalA_wo m g c)⟩) (run_main (F := Ideal) m g)
    refine (((hr.1 c).1 (3 : Fin 4)).trans (finalA_out m g c)).trans ?_
    rw [Cert.ReferenceIdeal.Read.val_main_v50_eq]
    funext i
    have hc : c.val < 4 := c.isLt
    have h0 : (i 0).val < 1024 := (i 0).isLt
    have e : i = ix2 (i 0) (i 1) := funext fun a => by match a with | ⟨0, _⟩ => rfl | ⟨1, _⟩ => rfl
    rw [e]
    refine (out_eq g P c (i 0) (i 1) ⟨1024 * c.val + (i 0).val, by omega⟩ rfl).trans (congrArg _ (funext fun a => Fin.ext ?_))
    match a with
    | ⟨0, _⟩ => show 1024 * c.val + (i 0).val = c.val * 1024 + (i 0).val; omega
    | ⟨1, _⟩ => rfl
  · exact (θ_run Cert.ReferenceIdeal.defs _ _).mono (fun r h => h 0) (Cert.ReferenceIdeal.Value.run (F := Ideal) m' g')

end Cert.Val

end
-- ==== Proof.lean ====
/-
The certificate: the five claims of the statement, each proved in the modules below.
-/
module

public import proofs.«01_k».proof.Defs
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Ring.factsK, Cert.Ring.factsR,
    Cert.Ring.frame_kernel, Cert.Ring.frame_kernelIdeal, Cert.Ring.frame_kernelIdeal_pre, Cert.Ring.frame_reference,
    Cert.Ring.frame_reference_pre, Cert.Ring.preserves, Cert.Val.algebraic⟩

end Cert.Proof

end
